-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_eigenvalues_above [hPre_eigenvalues_above : Cert.Pre_eigenvalues_above.Facts] (m : (ℓ : Loc Cert.KernelIdeal.nD Cert.KernelIdeal.τ Cert.KernelIdeal.sig) → Buf (Elt Ideal) ℓ) : Prop :=
  ∀ c : Dev Cert.KernelIdeal.nD,
    (Cert.Pre_eigenvalues_above.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_eigenvalues_above [hPre_eigenvalues_above : Cert.Pre_eigenvalues_above.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_eigenvalues_above.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_eigenvalues_above [hKernelIdeal : Cert.KernelIdeal.Facts] [hPre_eigenvalues_above : Cert.Pre_eigenvalues_above.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_eigenvalues_above m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_eigenvalues_above [hReferenceIdeal : Cert.ReferenceIdeal.Facts] [hPre_eigenvalues_above : Cert.Pre_eigenvalues_above.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_eigenvalues_above m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_eigenvalues_above [hKernelIdeal : Cert.KernelIdeal.Facts] [hReferenceIdeal : Cert.ReferenceIdeal.Facts] [hPre_eigenvalues_above : Cert.Pre_eigenvalues_above.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_eigenvalues_above m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_eigenvalues_above : Cert.Pre_eigenvalues_above.Facts),
    quiescent_Kernel (hKernel := hKernel)
    ∧ quiescent_KernelIdeal (hKernelIdeal := hKernelIdeal)
    ∧ quiescent_KernelIdeal_pre_eigenvalues_above (hKernelIdeal := hKernelIdeal) (hPre_eigenvalues_above := hPre_eigenvalues_above)
    ∧ quiescent_ReferenceIdeal (hReferenceIdeal := hReferenceIdeal)
    ∧ quiescent_ReferenceIdeal_pre_eigenvalues_above (hReferenceIdeal := hReferenceIdeal) (hPre_eigenvalues_above := hPre_eigenvalues_above)
    ∧ preserves_Kernel_KernelIdeal
    ∧ algebraic_KernelIdeal_ReferenceIdeal_pre_eigenvalues_above (hKernelIdeal := hKernelIdeal) (hReferenceIdeal := hReferenceIdeal) (hPre_eigenvalues_above := hPre_eigenvalues_above)
-- ==== Pre_eigenvalues_above.lean ====
abbrev S1024x21504 : Shape := ⟨2, ![1024, 21504]⟩
abbrev S6x1024x512 : Shape := ⟨3, ![6, 1024, 512]⟩
abbrev S6x1024x16 : Shape := ⟨3, ![6, 1024, 16]⟩
abbrev S6x1024 : Shape := ⟨2, ![6, 1024]⟩
abbrev S6x3584x1792 : Shape := ⟨3, ![6, 3584, 1792]⟩
abbrev S6x3584x56 : Shape := ⟨3, ![6, 3584, 56]⟩
abbrev S6x3584 : Shape := ⟨2, ![6, 3584]⟩
abbrev S6x4608 : Shape := ⟨2, ![6, 4608]⟩
abbrev S_ : Shape := ⟨0, ![]⟩

class Facts : Prop where
  concatenates_S6x1024_S6x3584_S6x4608_d1 : Shape.Concatenates [S6x1024, S6x3584] S6x4608 1
  bcast_S_S6x4608 : S_.BroadcastsInDim S6x4608 (![] : Fin 0 → Fin S6x4608.rank)

variable [Facts]

def fn {F : FTy → Type} [FloatOps F] (main_arg0 : FVec F S1024x21504 .bf16) (main_arg1 : FVec F S1024x21504 .f32) (main_arg2 : IVec S6x1024x512 8) (main_arg3 : FVec F S6x1024x16 .f32) (main_arg4 : FVec F S6x1024 .f32) (main_arg5 : IVec S6x3584x1792 8) (main_arg6 : FVec F S6x3584x56 .f32) (main_arg7 : FVec F S6x3584 .f32) : IVec S6x4608 1 :=
  let main_v0 : FVec F S6x4608 .f32 := (fun a b => concatenate S6x4608 1 [⟨S6x1024, a⟩, ⟨S6x3584, b⟩] concatenates_S6x1024_S6x3584_S6x4608_d1) main_arg4 main_arg7
  let main_cst : FVec F S_ .f32 := constant S_ .f32 0x38D1B717#32
  let main_v1 : FVec F S6x4608 .f32 := broadcastInDim S6x4608 ![] bcast_S_S6x4608 main_cst
  let main_v2 : FVec F S6x4608 .f32 := addf main_v0 main_v1
  let main_cst_0 : FVec F S_ .f32 := constant S_ .f32 0x00000000#32
  let main_v3 : FVec F S6x4608 .f32 := broadcastInDim S6x4608 ![] bcast_S_S6x4608 main_cst_0
  let main_v4 : IVec S6x4608 1 := cmpf .ogt main_v2 main_v3
  main_v4
-- ==== Kernel.lean ====
abbrev S1024x21504 : Shape := ⟨2, ![1024, 21504]⟩
abbrev S6x1024x512 : Shape := ⟨3, ![6, 1024, 512]⟩
abbrev S6x1024x16 : Shape := ⟨3, ![6, 1024, 16]⟩
abbrev S6x1024 : Shape := ⟨2, ![6, 1024]⟩
abbrev S6x3584x1792 : Shape := ⟨3, ![6, 3584, 1792]⟩
abbrev S6x3584x56 : Shape := ⟨3, ![6, 3584, 56]⟩
abbrev S6x3584 : Shape := ⟨2, ![6, 3584]⟩
abbrev S6x1024x1024 : Shape := ⟨3, ![6, 1024, 1024]⟩
abbrev S1x512x512 : Shape := ⟨3, ![1, 512, 512]⟩
abbrev S1x512x16 : Shape := ⟨3, ![1, 512, 16]⟩
abbrev S1x512x1024 : Shape := ⟨3, ![1, 512, 1024]⟩
abbrev S16x1024 : Shape := ⟨2, ![16, 1024]⟩
abbrev S512x16 : Shape := ⟨2, ![512, 16]⟩
abbrev S512x1024 : Shape := ⟨2, ![512, 1024]⟩
abbrev S512x512 : Shape := ⟨2, ![512, 512]⟩
abbrev S1x1024x1024 : Shape := ⟨3, ![1, 1024, 1024]⟩
abbrev S1024x1024 : Shape := ⟨2, ![1024, 1024]⟩
abbrev S6x3584x3584 : Shape := ⟨3, ![6, 3584, 3584]⟩
abbrev S1x256x1792 : Shape := ⟨3, ![1, 256, 1792]⟩
abbrev S1x256x56 : Shape := ⟨3, ![1, 256, 56]⟩
abbrev S1x256x3584 : Shape := ⟨3, ![1, 256, 3584]⟩
abbrev S56x3584 : Shape := ⟨2, ![56, 3584]⟩
abbrev S256x56 : Shape := ⟨2, ![256, 56]⟩
abbrev S256x3584 : Shape := ⟨2, ![256, 3584]⟩
abbrev S256x1792 : Shape := ⟨2, ![256, 1792]⟩
abbrev S1x3584x512 : Shape := ⟨3, ![1, 3584, 512]⟩
abbrev S1x3584x1792 : Shape := ⟨3, ![1, 3584, 1792]⟩
abbrev S1x512x1792 : Shape := ⟨3, ![1, 512, 1792]⟩
abbrev S3584x512 : Shape := ⟨2, ![3584, 512]⟩
abbrev S3584x1792 : Shape := ⟨2, ![3584, 1792]⟩
abbrev S512x1792 : Shape := ⟨2, ![512, 1792]⟩
abbrev S1x512x3584 : Shape := ⟨3, ![1, 512, 3584]⟩
abbrev S512x3584 : Shape := ⟨2, ![512, 3584]⟩
abbrev S6x1024x1 : Shape := ⟨3, ![6, 1024, 1]⟩
abbrev S6x1024x3584 : Shape := ⟨3, ![6, 1024, 3584]⟩
abbrev S6x1x512 : Shape := ⟨3, ![6, 1, 512]⟩
abbrev S1x1024x1 : Shape := ⟨3, ![1, 1024, 1]⟩
abbrev S1024x512 : Shape := ⟨2, ![1024, 512]⟩
abbrev S1x1024x512 : Shape := ⟨3, ![1, 1024, 512]⟩
abbrev S1x1x512 : Shape := ⟨3, ![1, 1, 512]⟩
abbrev S1024x1 : Shape := ⟨2, ![1024, 1]⟩
abbrev S1x512 : Shape := ⟨2, ![1, 512]⟩
abbrev S512 : Shape := ⟨1, ![512]⟩
abbrev S6x1x3584 : Shape := ⟨3, ![6, 1, 3584]⟩
abbrev S1x1024x3584 : Shape := ⟨3, ![1, 1024, 3584]⟩
abbrev S1024x3584 : Shape := ⟨2, ![1024, 3584]⟩
abbrev S1 : Shape := ⟨1, ![1]⟩
abbrev S1x1 : Shape := ⟨2, ![1, 1]⟩

abbrev nBuf : Space → Nat
  | .hbm => 24
  | .vmem => 84
  | .smem => 0
  | _ => 0

abbrev bufTy : (tb : Table) → Fin (tcTables nBuf tb) → BufTy
  | .hbm, ⟨0, _⟩ => ⟨S1024x21504, .bf16⟩
  | .hbm, ⟨1, _⟩ => ⟨S1024x21504, .f32⟩
  | .hbm, ⟨2, _⟩ => ⟨S6x1024x512, .i8⟩
  | .hbm, ⟨3, _⟩ => ⟨S6x1024x16, .f32⟩
  | .hbm, ⟨4, _⟩ => ⟨S6x1024, .f32⟩
  | .hbm, ⟨5, _⟩ => ⟨S6x3584x1792, .i8⟩
  | .hbm, ⟨6, _⟩ => ⟨S6x3584x56, .f32⟩
  | .hbm, ⟨7, _⟩ => ⟨S6x3584, .f32⟩
  | .hbm, ⟨8, _⟩ => ⟨S6x1024x1024, .bf16⟩
  | .hbm, ⟨9, _⟩ => ⟨S6x1024x1024, .bf16⟩
  | .hbm, ⟨10, _⟩ => ⟨S6x1024x1024, .bf16⟩
  | .hbm, ⟨11, _⟩ => ⟨S6x3584x3584, .bf16⟩
  | .hbm, ⟨12, _⟩ => ⟨S6x3584x3584, .bf16⟩
  | .hbm, ⟨13, _⟩ => ⟨S6x3584x3584, .bf16⟩
  | .hbm, ⟨14, _⟩ => ⟨S6x1024x1, .f32⟩
  | .hbm, ⟨15, _⟩ => ⟨S6x1024x3584, .bf16⟩
  | .hbm, ⟨16, _⟩ => ⟨S1024x21504, .f32⟩
  | .hbm, ⟨17, _⟩ => ⟨S6x1x512, .f32⟩
  | .hbm, ⟨18, _⟩ => ⟨S6x1x3584, .f32⟩
  | .hbm, ⟨19, _⟩ => ⟨S6x1024x3584, .bf16⟩
  | .hbm, ⟨20, _⟩ => ⟨S6x1024x3584, .bf16⟩
  | .hbm, ⟨21, _⟩ => ⟨S1024x21504, .f32⟩
  | .hbm, ⟨22, _⟩ => ⟨S6x1x512, .f32⟩
  | .hbm, ⟨23, _⟩ => ⟨S1024x21504, .f32⟩
  | .local _ .vmem, ⟨0, _⟩ => ⟨S1x512x512, .i8⟩
  | .local _ .vmem, ⟨1, _⟩ => ⟨S1x512x512, .i8⟩
  | .local _ .vmem, ⟨2, _⟩ => ⟨S1x512x16, .f32⟩
  | .local _ .vmem, ⟨3, _⟩ => ⟨S1x512x16, .f32⟩
  | .local _ .vmem, ⟨4, _⟩ => ⟨S1x512x1024, .bf16⟩
  | .local _ .vmem, ⟨5, _⟩ => ⟨S1x512x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x256x1792, .i8⟩
  | .local _ .vmem, ⟨21, _⟩ => ⟨S1x256x1792, .i8⟩
  | .local _ .vmem, ⟨22, _⟩ => ⟨S1x256x56, .f32⟩
  | .local _ .vmem, ⟨23, _⟩ => ⟨S1x256x56, .f32⟩
  | .local _ .vmem, ⟨24, _⟩ => ⟨S1x256x3584, .bf16⟩
  | .local _ .vmem, ⟨25, _⟩ => ⟨S1x256x3584, .bf16⟩
  | .local _ .vmem, ⟨26, _⟩ => ⟨S1x3584x512, .bf16⟩
  | .local _ .vmem, ⟨27, _⟩ => ⟨S1x3584x512, .bf16⟩
  | .local _ .vmem, ⟨28, _⟩ => ⟨S1x3584x1792, .bf16⟩
  | .local _ .vmem, ⟨29, _⟩ => ⟨S1x3584x1792, .bf16⟩
  | .local _ .vmem, ⟨30, _⟩ => ⟨S1x512x1792, .bf16⟩
  | .local _ .vmem, ⟨31, _⟩ => ⟨S1x512x1792, .bf16⟩
  | .local _ .vmem, ⟨32, _⟩ => ⟨S1x512x3584, .bf16⟩
  | .local _ .vmem, ⟨33, _⟩ => ⟨S1x512x3584, .bf16⟩
  | .local _ .vmem, ⟨34, _⟩ => ⟨S1x3584x1792, .bf16⟩
  | .local _ .vmem, ⟨35, _⟩ => ⟨S1x3584x1792, .bf16⟩
  | .local _ .vmem, ⟨36, _⟩ => ⟨S1x512x1792, .bf16⟩
  | .local _ .vmem, ⟨37, _⟩ => ⟨S1x512x1792, .bf16⟩
  | .local _ .vmem, ⟨38, _⟩ => ⟨S1x512x1792, .bf16⟩
  | .local _ .vmem, ⟨39, _⟩ => ⟨S1x512x1792, .bf16⟩
  | .local _ .vmem, ⟨40, _⟩ => ⟨S1x1024x1024, .bf16⟩
  | .local _ .vmem, ⟨41, _⟩ => ⟨S1x1024x1024, .bf16⟩
  | .local _ .vmem, ⟨42, _⟩ => ⟨S1x1024x1, .f32⟩
  | .local _ .vmem, ⟨43, _⟩ => ⟨S1x1024x1, .f32⟩
  | .local _ .vmem, ⟨44, _⟩ => ⟨S1024x512, .bf16⟩
  | .local _ .vmem, ⟨45, _⟩ => ⟨S1024x512, .bf16⟩
  | .local _ .vmem, ⟨46, _⟩ => ⟨S1024x512, .f32⟩
  | .local _ .vmem, ⟨47, _⟩ => ⟨S1024x512, .f32⟩
  | .local _ .vmem, ⟨48, _⟩ => ⟨S1x1024x512, .bf16⟩
  | .local _ .vmem, ⟨49, _⟩ => ⟨S1x1024x512, .bf16⟩
  | .local _ .vmem, ⟨50, _⟩ => ⟨S1024x512, .f32⟩
  | .local _ .vmem, ⟨51, _⟩ => ⟨S1024x512, .f32⟩
  | .local _ .vmem, ⟨52, _⟩ => ⟨S1x1x512, .f32⟩
  | .local _ .vmem, ⟨53, _⟩ => ⟨S1x1x512, .f32⟩
  | .local _ .vmem, ⟨54, _⟩ => ⟨S1x1024x3584, .bf16⟩
  | .local _ .vmem, ⟨55, _⟩ => ⟨S1x1024x3584, .bf16⟩
  | .local _ .vmem, ⟨56, _⟩ => ⟨S1x3584x512, .bf16⟩
  | .local _ .vmem, ⟨57, _⟩ => ⟨S1x3584x512, .bf16⟩
  | .local _ .vmem, ⟨58, _⟩ => ⟨S1x1x512, .f32⟩
  | .local _ .vmem, ⟨59, _⟩ => ⟨S1x1x512, .f32⟩
  | .local _ .vmem, ⟨60, _⟩ => ⟨S1x1024x512, .bf16⟩
  | .local _ .vmem, ⟨61, _⟩ => ⟨S1x1024x512, .bf16⟩
  | .local _ .vmem, ⟨62, _⟩ => ⟨S1x1024x1024, .bf16⟩
  | .local _ .vmem, ⟨63, _⟩ => ⟨S1x1024x1024, .bf16⟩
  | .local _ .vmem, ⟨64, _⟩ => ⟨S1x1024x512, .bf16⟩
  | .local _ .vmem, ⟨65, _⟩ => ⟨S1x1024x512, .bf16⟩
  | .local _ .vmem, ⟨66, _⟩ => ⟨S1x1024x512, .bf16⟩
  | .local _ .vmem, ⟨67, _⟩ => ⟨S1x1024x512, .bf16⟩
  | .local _ .vmem, ⟨68, _⟩ => ⟨S1x1024x3584, .bf16⟩
  | .local _ .vmem, ⟨69, _⟩ => ⟨S1x1024x3584, .bf16⟩
  | .local _ .vmem, ⟨70, _⟩ => ⟨S1x512x3584, .bf16⟩
  | .local _ .vmem, ⟨71, _⟩ => ⟨S1x512x3584, .bf16⟩
  | .local _ .vmem, ⟨72, _⟩ => ⟨S1024x512, .f32⟩
  | .local _ .vmem, ⟨73, _⟩ => ⟨S1024x512, .f32⟩
  | .local _ .vmem, ⟨74, _⟩ => ⟨S1x1x512, .f32⟩
  | .local _ .vmem, ⟨75, _⟩ => ⟨S1x1x512, .f32⟩
  | .local _ .vmem, ⟨76, _⟩ => ⟨S1024x512, .f32⟩
  | .local _ .vmem, ⟨77, _⟩ => ⟨S1024x512, .f32⟩
  | .local _ .vmem, ⟨78, _⟩ => ⟨S1x1x512, .f32⟩
  | .local _ .vmem, ⟨79, _⟩ => ⟨S1x1x512, .f32⟩
  | .local _ .vmem, ⟨80, _⟩ => ⟨S1x1x512, .f32⟩
  | .local _ .vmem, ⟨81, _⟩ => ⟨S1x1x512, .f32⟩
  | .local _ .vmem, ⟨82, _⟩ => ⟨S1024x512, .f32⟩
  | .local _ .vmem, ⟨83, _⟩ => ⟨S1024x512, .f32⟩
  | _, _ => ⟨S1024x21504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc6_stg3_0 : Ref sig .tc := ⟨.vmem, 46, rfl⟩
abbrev cc6_stg3_1 : Ref sig .tc := ⟨.vmem, 47, rfl⟩
abbrev cc6_stg4_0 : Ref sig .tc := ⟨.vmem, 48, rfl⟩
abbrev cc6_stg4_1 : Ref sig .tc := ⟨.vmem, 49, rfl⟩
abbrev cc6_stg5_0 : Ref sig .tc := ⟨.vmem, 50, rfl⟩
abbrev cc6_stg5_1 : Ref sig .tc := ⟨.vmem, 51, rfl⟩
abbrev cc6_stg6_0 : Ref sig .tc := ⟨.vmem, 52, rfl⟩
abbrev cc6_stg6_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg2_1 : Ref sig .tc := ⟨.vmem, 59, rfl⟩
abbrev cc7_stg3_0 : Ref sig .tc := ⟨.vmem, 60, rfl⟩
abbrev cc7_stg3_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg1_1 : Ref sig .tc := ⟨.vmem, 65, rfl⟩
abbrev cc8_stg2_0 : Ref sig .tc := ⟨.vmem, 66, rfl⟩
abbrev cc8_stg2_1 : Ref sig .tc := ⟨.vmem, 67, rfl⟩
abbrev cc9_stg0_0 : Ref sig .tc := ⟨.vmem, 68, rfl⟩
abbrev cc9_stg0_1 : Ref sig .tc := ⟨.vmem, 69, rfl⟩
abbrev cc9_stg1_0 : Ref sig .tc := ⟨.vmem, 70, rfl⟩
abbrev cc9_stg1_1 : Ref sig .tc := ⟨.vmem, 71, rfl⟩
abbrev cc9_stg2_0 : Ref sig .tc := ⟨.vmem, 72, rfl⟩
abbrev cc9_stg2_1 : Ref sig .tc := ⟨.vmem, 73, rfl⟩
abbrev cc9_stg3_0 : Ref sig .tc := ⟨.vmem, 74, rfl⟩
abbrev cc9_stg3_1 : Ref sig .tc := ⟨.vmem, 75, rfl⟩
abbrev cc10_stg0_0 : Ref sig .tc := ⟨.vmem, 76, rfl⟩
abbrev cc10_stg0_1 : Ref sig .tc := ⟨.vmem, 77, rfl⟩
abbrev cc10_stg1_0 : Ref sig .tc := ⟨.vmem, 78, rfl⟩
abbrev cc10_stg1_1 : Ref sig .tc := ⟨.vmem, 79, rfl⟩
abbrev cc10_stg2_0 : Ref sig .tc := ⟨.vmem, 80, rfl⟩
abbrev cc10_stg2_1 : Ref sig .tc := ⟨.vmem, 81, rfl⟩
abbrev cc10_stg3_0 : Ref sig .tc := ⟨.vmem, 82, rfl⟩
abbrev cc10_stg3_1 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc6_sem3_0 : DmaSem sig := 46
abbrev cc6_sem3_1 : DmaSem sig := 47
abbrev cc6_sem4_0 : DmaSem sig := 48
abbrev cc6_sem4_1 : DmaSem sig := 49
abbrev cc6_sem5_0 : DmaSem sig := 50
abbrev cc6_sem5_1 : DmaSem sig := 51
abbrev cc6_sem6_0 : DmaSem sig := 52
abbrev cc6_sem6_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem2_1 : DmaSem sig := 59
abbrev cc7_sem3_0 : DmaSem sig := 60
abbrev cc7_sem3_1 : DmaSem sig := 61
abbrev cc8_sem0_0 : DmaSem sig := 62
abbrev cc8_sem0_1 : DmaSem sig := 63
abbrev cc8_sem1_0 : DmaSem sig := 64
abbrev cc8_sem1_1 : DmaSem sig := 65
abbrev cc8_sem2_0 : DmaSem sig := 66
abbrev cc8_sem2_1 : DmaSem sig := 67
abbrev cc9_sem0_0 : DmaSem sig := 68
abbrev cc9_sem0_1 : DmaSem sig := 69
abbrev cc9_sem1_0 : DmaSem sig := 70
abbrev cc9_sem1_1 : DmaSem sig := 71
abbrev cc9_sem2_0 : DmaSem sig := 72
abbrev cc9_sem2_1 : DmaSem sig := 73
abbrev cc9_sem3_0 : DmaSem sig := 74
abbrev cc9_sem3_1 : DmaSem sig := 75
abbrev cc10_sem0_0 : DmaSem sig := 76
abbrev cc10_sem0_1 : DmaSem sig := 77
abbrev cc10_sem1_0 : DmaSem sig := 78
abbrev cc10_sem1_1 : DmaSem sig := 79
abbrev cc10_sem2_0 : DmaSem sig := 80
abbrev cc10_sem2_1 : DmaSem sig := 81
abbrev cc10_sem3_0 : DmaSem sig := 82
abbrev cc10_sem3_1 : DmaSem sig := 83

abbrev nD : Nat := 1
abbrev τ : Topo := Topo.v7x

variable {F : FTy → Type} [FloatOps F]

abbrev grid0 : Pipeline.Grid := ⟨2, ![6, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![6, 1, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev grid2 : Pipeline.Grid := ⟨3, ![6, 1, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage2_0 : Fin 2 → Memref sig .tc .vmem S1x1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev stage2_3 : Fin 2 → Memref sig .tc .vmem S1x1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev grid3 : Pipeline.Grid := ⟨2, ![6, 14], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x1792 .i8 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x256x56 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256x3584 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨3, ![6, 7, 2], ![false, false, false]⟩

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage4_0 : Fin 2 → Memref sig .tc .vmem S1x3584x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, false]

abbrev stage4_1 : Fin 2 → Memref sig .tc .vmem S1x3584x1792 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1x512x1792 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true]

abbrev grid5 : Pipeline.Grid := ⟨3, ![6, 2, 7], ![false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc5_transform_3 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage5_0 : Fin 2 → Memref sig .tc .vmem S1x512x3584 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1x3584x1792 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true, false]

abbrev stage5_2 : Fin 2 → Memref sig .tc .vmem S1x512x1792 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, true]

abbrev stage5_3 : Fin 2 → Memref sig .tc .vmem S1x512x1792 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, true]

abbrev grid6 : Pipeline.Grid := ⟨2, ![6, 7], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![c0_i32.toNat, v1.toNat]

def cc6_transform_3 (i : grid6.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![c0_i32.toNat, v1.toNat]

def cc6_transform_4 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_5 (i : grid6.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![c0_i32.toNat, v1.toNat]

def cc6_transform_6 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S1x1024x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1024x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S1024x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 2 → Memref sig .tc .vmem S1x1024x512 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev stage6_5 : Fin 2 → Memref sig .tc .vmem S1024x512 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]

abbrev stage6_6 : Fin 2 → Memref sig .tc .vmem S1x1x512 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, false]

abbrev grid7 : Pipeline.Grid := ⟨2, ![6, 7], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage7_0 : Fin 2 → Memref sig .tc .vmem S1x1024x3584 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1x3584x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S1x1x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S1x1024x512 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev grid8 : Pipeline.Grid := ⟨2, ![6, 7], ![false, false]⟩

def cc8_transform_0 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc8_transform_2 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage8_0 : Fin 2 → Memref sig .tc .vmem S1x1024x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S1x1024x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 2 → Memref sig .tc .vmem S1x1024x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![6, 7], ![false, false]⟩

def cc9_transform_0 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc9_transform_1 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![c0_i32.toNat, v1.toNat]

def cc9_transform_3 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x1024x3584 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S1x512x3584 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev stage9_2 : Fin 2 → Memref sig .tc .vmem S1024x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev stage9_3 : Fin 2 → Memref sig .tc .vmem S1x1x512 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev grid10 : Pipeline.Grid := ⟨2, ![6, 7], ![false, false]⟩

def cc10_transform_0 (i : grid10.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![c0_i32.toNat, v1.toNat]

def cc10_transform_1 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc10_transform_2 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc10_transform_3 (i : grid10.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![c0_i32.toNat, v1.toNat]

abbrev stage10_0 : Fin 2 → Memref sig .tc .vmem S1024x512 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S1x1x512 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, false]

abbrev stage10_2 : Fin 2 → Memref sig .tc .vmem S1x1x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

abbrev stage10_3 : Fin 2 → Memref sig .tc .vmem S1024x512 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true]
-- ==== ReferenceIdeal.lean ====
abbrev S1024x21504 : Shape := ⟨2, ![1024, 21504]⟩
abbrev S6x1024x512 : Shape := ⟨3, ![6, 1024, 512]⟩
abbrev S6x1024x16 : Shape := ⟨3, ![6, 1024, 16]⟩
abbrev S6x1024 : Shape := ⟨2, ![6, 1024]⟩
abbrev S6x3584x1792 : Shape := ⟨3, ![6, 3584, 1792]⟩
abbrev S6x3584x56 : Shape := ⟨3, ![6, 3584, 56]⟩
abbrev S6x3584 : Shape := ⟨2, ![6, 3584]⟩
abbrev S_ : Shape := ⟨0, ![]⟩
abbrev S6x1024x1x512 : Shape := ⟨4, ![6, 1024, 1, 512]⟩
abbrev S6x1024x2x512 : Shape := ⟨4, ![6, 1024, 2, 512]⟩
abbrev S6x1024x1024 : Shape := ⟨3, ![6, 1024, 1024]⟩
abbrev S6x1024x16x64 : Shape := ⟨4, ![6, 1024, 16, 64]⟩
abbrev S6x1024x16x1 : Shape := ⟨4, ![6, 1024, 16, 1]⟩
abbrev S1024x1024 : Shape := ⟨2, ![1024, 1024]⟩
abbrev S1x1024x1024 : Shape := ⟨3, ![1, 1024, 1024]⟩
abbrev S6x3584x1x1792 : Shape := ⟨4, ![6, 3584, 1, 1792]⟩
abbrev S6x3584x2x1792 : Shape := ⟨4, ![6, 3584, 2, 1792]⟩
abbrev S6x3584x3584 : Shape := ⟨3, ![6, 3584, 3584]⟩
abbrev S6x3584x56x64 : Shape := ⟨4, ![6, 3584, 56, 64]⟩
abbrev S6x3584x56x1 : Shape := ⟨4, ![6, 3584, 56, 1]⟩
abbrev S3584x3584 : Shape := ⟨2, ![3584, 3584]⟩
abbrev S1x3584x3584 : Shape := ⟨3, ![1, 3584, 3584]⟩
abbrev S1024x6x3584 : Shape := ⟨3, ![1024, 6, 3584]⟩
abbrev S6x3584x1024 : Shape := ⟨3, ![6, 3584, 1024]⟩
abbrev S1024x6 : Shape := ⟨2, ![1024, 6]⟩
abbrev S1024x6x1 : Shape := ⟨3, ![1024, 6, 1]⟩
abbrev S1x6x3584 : Shape := ⟨3, ![1, 6, 3584]⟩
abbrev S6 : Shape := ⟨1, ![6]⟩
abbrev S1x6x1 : Shape := ⟨3, ![1, 6, 1]⟩

abbrev nBuf : Space → Nat
  | .hbm => 169
  | .vmem => 0
  | .smem => 0
  | _ => 0

abbrev hbmTy0_0 (i : Nat) : BufTy := match i % 128 with
  | 0 => ⟨S1024x21504, .bf16⟩
  | 1 => ⟨S1024x21504, .f32⟩
  | 2 => ⟨S6x1024x512, .i8⟩
  | 3 => ⟨S6x1024x16, .f32⟩
  | 4 => ⟨S6x1024, .f32⟩
  | 5 => ⟨S6x3584x1792, .i8⟩
  | 6 => ⟨S6x3584x56, .f32⟩
  | 7 => ⟨S6x3584, .f32⟩
  | 8 => ⟨S6x1024x512, .i32⟩
  | 9 => ⟨S_, .i32⟩
  | 10 => ⟨S6x1024x512, .i32⟩
  | 11 => ⟨S6x1024x512, .i32⟩
  | 12 => ⟨S_, .i32⟩
  | 13 => ⟨S6x1024x512, .i32⟩
  | 14 => ⟨S6x1024x512, .i1⟩
  | 15 => ⟨S_, .i32⟩
  | 16 => ⟨S6x1024x512, .i32⟩
  | 17 => ⟨S6x1024x512, .i32⟩
  | 18 => ⟨S6x1024x512, .i32⟩
  | 19 => ⟨S_, .i32⟩
  | 20 => ⟨S6x1024x512, .i32⟩
  | 21 => ⟨S6x1024x512, .i32⟩
  | 22 => ⟨S_, .i32⟩
  | 23 => ⟨S6x1024x512, .i32⟩
  | 24 => ⟨S6x1024x512, .i1⟩
  | 25 => ⟨S_, .i32⟩
  | 26 => ⟨S6x1024x512, .i32⟩
  | 27 => ⟨S6x1024x512, .i32⟩
  | 28 => ⟨S6x1024x512, .i32⟩
  | 29 => ⟨S6x1024x1x512, .i32⟩
  | 30 => ⟨S6x1024x1x512, .i32⟩
  | 31 => ⟨S6x1024x2x512, .i32⟩
  | 32 => ⟨S6x1024x1024, .i32⟩
  | 33 => ⟨S6x1024x1024, .bf16⟩
  | 34 => ⟨S6x1024x16x64, .bf16⟩
  | 35 => ⟨S6x1024x16, .bf16⟩
  | 36 => ⟨S6x1024x16x1, .bf16⟩
  | 37 => ⟨S6x1024x16x64, .bf16⟩
  | 38 => ⟨S6x1024x16x64, .bf16⟩
  | 39 => ⟨S6x1024x1024, .bf16⟩
  | 40 => ⟨S6x1024x1024, .f32⟩
  | 41 => ⟨S1024x1024, .i32⟩
  | 42 => ⟨S1024x1024, .i32⟩
  | 43 => ⟨S_, .i32⟩
  | 44 => ⟨S1024x1024, .i32⟩
  | 45 => ⟨S1024x1024, .i32⟩
  | 46 => ⟨S1024x1024, .i1⟩
  | 47 => ⟨S1024x1024, .f32⟩
  | 48 => ⟨S1x1024x1024, .f32⟩
  | 49 => ⟨S6x1024x1024, .f32⟩
  | 50 => ⟨S6x1024x1024, .f32⟩
  | 51 => ⟨S6x1024x1024, .bf16⟩
  | 52 => ⟨S6x1024x1024, .f32⟩
  | 53 => ⟨S6x1024x1024, .f32⟩
  | 54 => ⟨S_, .f32⟩
  | 55 => ⟨S6x1024x1024, .f32⟩
  | 56 => ⟨S6x1024x1024, .f32⟩
  | 57 => ⟨S6x1024x1024, .f32⟩
  | 58 => ⟨S6x1024x1024, .bf16⟩
  | 59 => ⟨S_, .f32⟩
  | 60 => ⟨S6x1024, .f32⟩
  | 61 => ⟨S6x1024, .f32⟩
  | 62 => ⟨S_, .f32⟩
  | 63 => ⟨S6x1024, .f32⟩
  | 64 => ⟨S6x1024, .f32⟩
  | 65 => ⟨S6x3584x1792, .i32⟩
  | 66 => ⟨S_, .i32⟩
  | 67 => ⟨S6x3584x1792, .i32⟩
  | 68 => ⟨S6x3584x1792, .i32⟩
  | 69 => ⟨S_, .i32⟩
  | 70 => ⟨S6x3584x1792, .i32⟩
  | 71 => ⟨S6x3584x1792, .i1⟩
  | 72 => ⟨S_, .i32⟩
  | 73 => ⟨S6x3584x1792, .i32⟩
  | 74 => ⟨S6x3584x1792, .i32⟩
  | 75 => ⟨S6x3584x1792, .i32⟩
  | 76 => ⟨S_, .i32⟩
  | 77 => ⟨S6x3584x1792, .i32⟩
  | 78 => ⟨S6x3584x1792, .i32⟩
  | 79 => ⟨S_, .i32⟩
  | 80 => ⟨S6x3584x1792, .i32⟩
  | 81 => ⟨S6x3584x1792, .i1⟩
  | 82 => ⟨S_, .i32⟩
  | 83 => ⟨S6x3584x1792, .i32⟩
  | 84 => ⟨S6x3584x1792, .i32⟩
  | 85 => ⟨S6x3584x1792, .i32⟩
  | 86 => ⟨S6x3584x1x1792, .i32⟩
  | 87 => ⟨S6x3584x1x1792, .i32⟩
  | 88 => ⟨S6x3584x2x1792, .i32⟩
  | 89 => ⟨S6x3584x3584, .i32⟩
  | 90 => ⟨S6x3584x3584, .bf16⟩
  | 91 => ⟨S6x3584x56x64, .bf16⟩
  | 92 => ⟨S6x3584x56, .bf16⟩
  | 93 => ⟨S6x3584x56x1, .bf16⟩
  | 94 => ⟨S6x3584x56x64, .bf16⟩
  | 95 => ⟨S6x3584x56x64, .bf16⟩
  | 96 => ⟨S6x3584x3584, .bf16⟩
  | 97 => ⟨S6x3584x3584, .f32⟩
  | 98 => ⟨S3584x3584, .i32⟩
  | 99 => ⟨S3584x3584, .i32⟩
  | 100 => ⟨S_, .i32⟩
  | 101 => ⟨S3584x3584, .i32⟩
  | 102 => ⟨S3584x3584, .i32⟩
  | 103 => ⟨S3584x3584, .i1⟩
  | 104 => ⟨S3584x3584, .f32⟩
  | 105 => ⟨S1x3584x3584, .f32⟩
  | 106 => ⟨S6x3584x3584, .f32⟩
  | 107 => ⟨S6x3584x3584, .f32⟩
  | 108 => ⟨S6x3584x3584, .bf16⟩
  | 109 => ⟨S6x3584x3584, .f32⟩
  | 110 => ⟨S6x3584x3584, .f32⟩
  | 111 => ⟨S_, .f32⟩
  | 112 => ⟨S6x3584x3584, .f32⟩
  | 113 => ⟨S6x3584x3584, .f32⟩
  | 114 => ⟨S6x3584x3584, .f32⟩
  | 115 => ⟨S6x3584x3584, .bf16⟩
  | 116 => ⟨S_, .f32⟩
  | 117 => ⟨S6x3584, .f32⟩
  | 118 => ⟨S6x3584, .f32⟩
  | 119 => ⟨S_, .f32⟩
  | 120 => ⟨S6x3584, .f32⟩
  | 121 => ⟨S6x3584, .f32⟩
  | 122 => ⟨S1024x6x3584, .bf16⟩
  | 123 => ⟨S6x3584x1024, .f32⟩
  | 124 => ⟨S1024x6x3584, .f32⟩
  | 125 => ⟨S1024x6, .f32⟩
  | 126 => ⟨S1024x6x1, .f32⟩
  | 127 => ⟨S1024x6x3584, .f32⟩
  | _ => ⟨S1024x21504, .bf16⟩

abbrev hbmTy0_1 (i : Nat) : BufTy := match i % 128 with
  | 0 => ⟨S1024x6x3584, .f32⟩
  | 1 => ⟨S1024x6x3584, .bf16⟩
  | 2 => ⟨S6x3584x1024, .f32⟩
  | 3 => ⟨S1024x6x3584, .f32⟩
  | 4 => ⟨S1x6x3584, .f32⟩
  | 5 => ⟨S1024x6x3584, .f32⟩
  | 6 => ⟨S1024x6x3584, .f32⟩
  | 7 => ⟨S1024x6x3584, .bf16⟩
  | 8 => ⟨S6x3584x1024, .f32⟩
  | 9 => ⟨S1024x6x3584, .f32⟩
  | 10 => ⟨S1024x6x3584, .bf16⟩
  | 11 => ⟨S6x3584x1024, .f32⟩
  | 12 => ⟨S1024x6x3584, .f32⟩
  | 13 => ⟨S1024x6x3584, .f32⟩
  | 14 => ⟨S1024x6x3584, .f32⟩
  | 15 => ⟨S1024x6x3584, .f32⟩
  | 16 => ⟨S_, .f32⟩
  | 17 => ⟨S1024x6x3584, .f32⟩
  | 18 => ⟨S1024x6x3584, .f32⟩
  | 19 => ⟨S1024x6x3584, .f32⟩
  | 20 => ⟨S1024x6x3584, .f32⟩
  | 21 => ⟨S_, .f32⟩
  | 22 => ⟨S6, .f32⟩
  | 23 => ⟨S6, .f32⟩
  | 24 => ⟨S1024x6x3584, .f32⟩
  | 25 => ⟨S_, .f32⟩
  | 26 => ⟨S6, .f32⟩
  | 27 => ⟨S6, .f32⟩
  | 28 => ⟨S_, .f32⟩
  | 29 => ⟨S6, .f32⟩
  | 30 => ⟨S6, .i1⟩
  | 31 => ⟨S_, .f32⟩
  | 32 => ⟨S_, .f32⟩
  | 33 => ⟨S6, .f32⟩
  | 34 => ⟨S6, .f32⟩
  | 35 => ⟨S6, .f32⟩
  | 36 => ⟨S1x6x1, .f32⟩
  | 37 => ⟨S1024x6x3584, .f32⟩
  | 38 => ⟨S1024x6x3584, .f32⟩
  | 39 => ⟨S1024x21504, .f32⟩
  | 40 => ⟨S1024x21504, .f32⟩
  | _ => ⟨S1024x21504, .bf16⟩

abbrev hbmTy (i : Nat) : BufTy := match i / 128 with
  | 0 => hbmTy0_0 i
  | 1 => hbmTy0_1 i
  | _ => ⟨S1024x21504, .bf16⟩

abbrev bufTy : (tb : Table) → Fin (tcTables nBuf tb) → BufTy
  | .hbm, ⟨i, _⟩ => hbmTy i
  | _, _ => ⟨S1024x21504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_14 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_15 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_16 : Ref sig .tc := ⟨.hbm, 116, rfl⟩
abbrev main_v90 : Ref sig .tc := ⟨.hbm, 117, rfl⟩
abbrev main_v91 : Ref sig .tc := ⟨.hbm, 118, rfl⟩
abbrev main_cst_17 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_18 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_19 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_20 : Ref sig .tc := ⟨.hbm, 153, rfl⟩
abbrev main_v123 : Ref sig .tc := ⟨.hbm, 154, rfl⟩
abbrev main_v124 : Ref sig .tc := ⟨.hbm, 155, rfl⟩
abbrev main_cst_21 : Ref sig .tc := ⟨.hbm, 156, rfl⟩
abbrev main_v125 : Ref sig .tc := ⟨.hbm, 157, rfl⟩
abbrev main_v126 : Ref sig .tc := ⟨.hbm, 158, rfl⟩
abbrev main_cst_22 : Ref sig .tc := ⟨.hbm, 159, rfl⟩
abbrev main_call4_v0 : Ref sig .tc := ⟨.hbm, 160, rfl⟩
abbrev main_call4_v1 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩

abbrev nD : Nat := 1
abbrev τ : Topo := Topo.v7x

variable {F : FTy → Type} [FloatOps F]
-- ==== Proof.KernelRun.lean ====
/- The run of the kernel with its two results at the contents the last boundary records for them. -/
module

public import proofs.«01_k».proof.Proof.Gen.KernelIdeal.Frame

@[expose] public section

set_option maxRecDepth 16384

noncomputable section

namespace Cert.KernelIdeal.Values

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every weakly fair execution of the kernel terminates without a fault, its two results hold the contents that the
    last boundary of the run records for them, and the arguments are as launched. -/
theorem run : θ_run defs (onTc (τ := τ) (main (F := F))) ⟨m, fun _ => 0, ρ⟩ (fun r => ∀ c : Dev nD,
      r.2.mem ((c.tc : Thread nD τ).loc main_v12) = W13 m ρ c (Proc.devRef .tc main_v12)
      ∧ r.2.mem ((c.tc : Thread nD τ).loc main_v7_1) = W13 m ρ c (Proc.devRef .tc main_v7_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ c =>
      ⟨h c _ (mem_uc main_v12 (by decide)), h c _ (mem_uc main_v7_1 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)

end Cert.KernelIdeal.Values

end
-- ==== Proof.Spec.lean ====
/- The mathematics both programs compute, written once at coordinates: every array is a function of
   its coordinates into the extended reals. Neither program is mentioned here. -/
module

public import Idealize.ShloMosaic.Lib.Pointwise

@[expose] public section

set_option maxRecDepth 16384

noncomputable section

namespace Cert.Spec

open Idealize.ShloMosaic

/-- The shape of a rank-2 array. -/
abbrev A2 (a b : ℕ) : Shape := ⟨2, ![a, b]⟩
/-- The shape of a rank-3 array. -/
abbrev A3 (a b c : ℕ) : Shape := ⟨3, ![a, b, c]⟩

/-- A rank-2 float array as a function of its coordinates. -/
abbrev mat {φ : FTy} {a b : ℕ} (X : FVec Ideal (A2 a b) φ) : Fin a → Fin b → EReal := fun i j => X (ix2 i j)
/-- A rank-3 float array as a function of its coordinates. -/
abbrev cube {φ : FTy} {a b c : ℕ} (X : FVec Ideal (A3 a b c) φ) : Fin a → Fin b → Fin c → EReal :=
  fun i j k => X (ix3 i j k)

/-- The low half of a byte, read as a signed four-bit number. -/
def nibLo (x : BitVec 8) : EReal := (((x.setWidth 4).toInt : ℝ) : EReal)
/-- The high half of a byte, read as a signed four-bit number. -/
def nibHi (x : BitVec 8) : EReal := ((((x >>> 4).setWidth 4).toInt : ℝ) : EReal)

/-- The decoded left basis: column `c` holds the low half of byte `c`, or past the middle the high half of
    byte `c - 512`, times the scale of its group of 64 columns. -/
def decL (C : Vec Ideal (A3 6 1024 512) .i8) (S : FVec Ideal (A3 6 1024 16) .f32) (b : Fin 6) (r c : Fin 1024) : EReal :=
  (if h : c.val < 512 then nibLo (C (ix3 b r ⟨c.val, h⟩)) else nibHi (C (ix3 b r ⟨c.val - 512, by omega⟩)))
    * S (ix3 b r ⟨c.val / 64, by omega⟩)

/-- The decoded right basis, in the same layout at width 3584. -/
def decR (C : Vec Ideal (A3 6 3584 1792) .i8) (S : FVec Ideal (A3 6 3584 56) .f32) (b : Fin 6) (r c : Fin 3584) : EReal :=
  (if h : c.val < 1792 then nibLo (C (ix3 b r ⟨c.val, h⟩)) else nibHi (C (ix3 b r ⟨c.val - 1792, by omega⟩)))
    * S (ix3 b r ⟨c.val / 64, by omega⟩)

variable {n : ℕ}

/-- The Gram matrix of the columns less the identity. -/
def gram (U : Fin 6 → Fin n → Fin n → EReal) (b : Fin 6) (i k : Fin n) : EReal :=
  (∑ r, U b r i * U b r k) - (if i.val = k.val then 1 else 0)

/-- One orthogonalising step: the basis less half its product with the error matrix. -/
def corr (U E : Fin 6 → Fin n → Fin n → EReal) (b : Fin 6) (i k : Fin n) : EReal :=
  U b i k - Ideal.ofBits .f32 0x3F000000#32 * ∑ j, U b i j * E b j k

/-- The corrected basis of a decoded one. -/
def basis (U : Fin 6 → Fin n → Fin n → EReal) : Fin 6 → Fin n → Fin n → EReal := corr U (gram U)

/-- The fourth root's reciprocal of a shifted eigenvalue, as two square roots and a reciprocal. -/
def damp (x : EReal) : EReal := Ideal.rsqrt (Ideal.sqrt (x + Ideal.ofBits .f32 0x38D1B717#32))

/-- Column `c` of block `b` in the flat array of 6 blocks of 3584 columns. -/
def col (b : Fin 6) (c : Fin 3584) : Fin 21504 := ⟨b.val * 3584 + c.val, by omega⟩

/-- The gradient in the left basis, damped by the left eigenvalues. -/
def t1 (U : Fin 6 → Fin 1024 → Fin 1024 → EReal) (G : Fin 1024 → Fin 21504 → EReal) (lam : Fin 6 → Fin 1024 → EReal)
    (b : Fin 6) (j : Fin 1024) (c : Fin 3584) : EReal :=
  (∑ i, U b i j * G i (col b c)) * damp (lam b j)

/-- … then in the right basis, damped by the right eigenvalues. -/
def t2 (T : Fin 6 → Fin 1024 → Fin 3584 → EReal) (U : Fin 6 → Fin 3584 → Fin 3584 → EReal) (lam : Fin 6 → Fin 3584 → EReal)
    (b : Fin 6) (j : Fin 1024) (e : Fin 3584) : EReal :=
  (∑ c, T b j c * U b c e) * damp (lam b e)

/-- … then back out of the left basis. -/
def t3 (U : Fin 6 → Fin 1024 → Fin 1024 → EReal) (T : Fin 6 → Fin 1024 → Fin 3584 → EReal)
    (b : Fin 6) (i : Fin 1024) (e : Fin 3584) : EReal :=
  ∑ j, U b i j * T b j e

/-- … then back out of the right basis: the preconditioned gradient. -/
def prec (T : Fin 6 → Fin 1024 → Fin 3584 → EReal) (U : Fin 6 → Fin 3584 → Fin 3584 → EReal)
    (b : Fin 6) (i : Fin 1024) (c : Fin 3584) : EReal :=
  ∑ e, T b i e * U b c e

/-- The gradient over the square root of its accumulator. -/
def ada (G A : Fin 1024 → Fin 21504 → EReal) (i : Fin 1024) (l : Fin 21504) : EReal :=
  Ideal.div (G i l) (Ideal.sqrt (A i l) + Ideal.ofBits .f32 0x322BCC77#32)

/-- The squares of a block's entries summed down the rows and over the 7 column tiles, one sum per lane. -/
def lanes (X : Fin 6 → Fin 1024 → Fin 3584 → EReal) (b : Fin 6) (l : Fin 512) : EReal :=
  ∑ s : Fin 7, ∑ i, X b i ⟨s.val * 512 + l.val, by omega⟩ * X b i ⟨s.val * 512 + l.val, by omega⟩

/-- The norm of a block from its lanes. -/
def norm (L : Fin 6 → Fin 512 → EReal) (b : Fin 6) : EReal := Ideal.sqrt (∑ l, L b l)

/-- The block's preconditioned gradient at the other's norm; a zero norm divides by one. -/
def graft (p pn an : EReal) : EReal := p * Ideal.div an (if pn = 0 then 1 else pn)

end Cert.Spec
end
-- ==== Proof.Pure.lean ====
/- The kernel's integer and selection arithmetic, read once: the diagonal test of the Gram kernels, the
   nibbles of a packed byte and the one-hot spread of the group scales. -/
module

public import proofs.«01_k».proof.Proof.Spec
public import Idealize.ShloMosaic.Lib.WordCmp

@[expose] public section

set_option maxRecDepth 16384

noncomputable section

namespace Cert.Spec

open Idealize.ShloMosaic

/-- Subtracting one where the row's number is the column's is subtracting the identity. -/
theorem sub_diag (a b tm tn r c : ℕ) (h1 : a * tm + r < 2 ^ 32) (h2 : b * tn + c < 2 ^ 32) (s : EReal) :
    Scalar.select (IntOp.cmpi CmpIPredicate.eq (IntOp.addi (Scalar.muli (BitVec.ofNat 32 a) (BitVec.ofNat 32 tm)) (BitVec.ofNat 32 r))
        (IntOp.addi (Scalar.muli (BitVec.ofNat 32 b) (BitVec.ofNat 32 tn)) (BitVec.ofNat 32 c))) (s - 1) s
      = s - if a * tm + r = b * tn + c then 1 else 0 := by
  have e1 : IntOp.addi (Scalar.muli (BitVec.ofNat 32 a) (BitVec.ofNat 32 tm)) (BitVec.ofNat 32 r) = BitVec.ofNat 32 (a * tm + r) := by
    simp [IntOp.addi, Scalar.muli, IntOp.muli, BitVec.ofNat_add, BitVec.ofNat_mul]
  have e2 : IntOp.addi (Scalar.muli (BitVec.ofNat 32 b) (BitVec.ofNat 32 tn)) (BitVec.ofNat 32 c) = BitVec.ofNat 32 (b * tn + c) := by
    simp [IntOp.addi, Scalar.muli, IntOp.muli, BitVec.ofNat_add, BitVec.ofNat_mul]
  rw [e1, e2]
  have e3 : (BitVec.ofNat 32 (a * tm + r) = BitVec.ofNat 32 (b * tn + c)) ↔ a * tm + r = b * tn + c := by
    constructor
    · intro h
      have := congrArg BitVec.toNat h
      rwa [BitVec.toNat_ofNat, BitVec.toNat_ofNat, Nat.mod_eq_of_lt h1, Nat.mod_eq_of_lt h2] at this
    · intro h; rw [h]
  by_cases h : a * tm + r = b * tn + c
  · rw [if_pos h]
    simp [IntOp.cmpi, Scalar.select, h]
  · rw [if_neg h]
    have : (BitVec.ofNat 32 (a * tm + r) == BitVec.ofNat 32 (b * tn + c)) = false :=
      beq_eq_false_iff_ne.2 fun h' => h (e3.1 h')
    simp only [IntOp.cmpi, Scalar.select, this]
    simp

/-- Shifting a byte's low half to the top of a word and back down with sign is reading it signed. -/
theorem lo_shift (x : BitVec 8) :
    (IntOp.shrsi ArithUnit.vector (IntOp.shli ArithUnit.vector (BitVec.setWidth 32 x) 28#32) 28#32).toInt = (x.setWidth 4).toInt := by
  revert x; decide +kernel

/-- The same for the high half. -/
theorem hi_shift (x : BitVec 8) :
    (IntOp.shrsi ArithUnit.vector (IntOp.shli ArithUnit.vector (BitVec.setWidth 32 x) 24#32) 28#32).toInt = ((x >>> 4).setWidth 4).toInt := by
  revert x; decide +kernel

/-- Masking a byte's low half and subtracting 16 from 8 upwards is reading it signed. -/
theorem lo_mask (x : BitVec 8) :
    (Scalar.select (IntOp.cmpi CmpIPredicate.sge (IntOp.andi (BitVec.setWidth 32 x) 15#32) 8#32)
      (IntOp.subi (IntOp.andi (BitVec.setWidth 32 x) 15#32) 16#32) (IntOp.andi (BitVec.setWidth 32 x) 15#32)).toInt = (x.setWidth 4).toInt := by
  revert x; decide +kernel

/-- The same for the high half, shifted down. -/
theorem hi_mask (x : BitVec 8) :
    (Scalar.select (IntOp.cmpi CmpIPredicate.sge (IntOp.shrsi ArithUnit.host (BitVec.setWidth 32 x) 4#32) 8#32)
      (IntOp.subi (IntOp.shrsi ArithUnit.host (BitVec.setWidth 32 x) 4#32) 16#32)
      (IntOp.shrsi ArithUnit.host (BitVec.setWidth 32 x) 4#32)).toInt = ((x >>> 4).setWidth 4).toInt := by
  revert x; decide +kernel

/-- A word's conversion to a float is its signed value. -/
theorem sitofp_eq (φ : FTy) (x : BitVec 32) : (FloatOps.sitofp (F := Ideal) φ x : EReal) = ((x.toInt : ℝ) : EReal) := rfl

/-- The kernel's floor division of a column's number by 64, as it spells it. -/
def grpW (c : ℕ) : BitVec 32 :=
              (Scalar.select
                (IntOp.andi
                  (IntOp.cmpi CmpIPredicate.ne
                    (IntOp.subi (BitVec.setWidth 32 (IntOp.cmpi CmpIPredicate.sgt (BitVec.ofNat 32 c) 0#32))
                      (BitVec.setWidth 32 (IntOp.cmpi CmpIPredicate.slt (BitVec.ofNat 32 c) 0#32)))
                    (Scalar.subi (Scalar.extui (Scalar.cmpi CmpIPredicate.sgt 64#32 0#32))
                      (Scalar.extui (Scalar.cmpi CmpIPredicate.slt 64#32 0#32))))
                  (IntOp.cmpi CmpIPredicate.ne (IntOp.remsi ArithUnit.vector (BitVec.ofNat 32 c) 64#32) 0#32))
                (IntOp.subi (IntOp.divsi ArithUnit.vector (BitVec.ofNat 32 c) 64#32) 1#32)
                (IntOp.divsi ArithUnit.vector (BitVec.ofNat 32 c) 64#32))

/-- Rounding towards minus infinity, the group of a column is its number over 64. -/
theorem grpW_eq : ∀ c : Fin 3584, grpW c.val = BitVec.ofNat 32 (c.val / 64) := by decide +kernel

/-- A column's group compared with a group. -/
def grp (c x : ℕ) : BitVec 1 := IntOp.cmpi CmpIPredicate.eq (grpW c) (BitVec.ofNat 32 x)

/-- The comparison is one exactly at the column's own group. -/
theorem grp_eq (c x : ℕ) (hc : c < 3584) (hx : x < 56) :
    (BitVec.setWidth 32 (grp c x)).toInt = if x = c / 64 then 1 else 0 := by
  have h : grp c x = IntOp.cmpi CmpIPredicate.eq (BitVec.ofNat 32 (c / 64)) (BitVec.ofNat 32 x) := by
    rw [← grpW_eq ⟨c, hc⟩]; rfl
  rw [h]
  have e3 : (BitVec.ofNat 32 (c / 64) = BitVec.ofNat 32 x) ↔ x = c / 64 := by
    constructor
    · intro h
      have := congrArg BitVec.toNat h
      rw [BitVec.toNat_ofNat, BitVec.toNat_ofNat, Nat.mod_eq_of_lt (by omega), Nat.mod_eq_of_lt (by omega)] at this
      exact this.symm
    · intro h; rw [h]
  by_cases h : x = c / 64
  · simp [IntOp.cmpi, h]
  · have : (BitVec.ofNat 32 (c / 64) == BitVec.ofNat 32 x) = false := beq_eq_false_iff_ne.2 fun h' => h (e3.1 h')
    simp only [IntOp.cmpi, this, if_neg h]
    simp

/-- A sum against a one-hot column is the entry it picks (products with zero are zero). -/
theorem sum_onehot {G : ℕ} (f : Fin G → EReal) (g : Fin G → BitVec 32) (a : Fin G)
    (h : ∀ x, (g x).toInt = if x.val = a.val then 1 else 0) (φ : FTy) :
    ∑ x, f x * (FloatOps.sitofp (F := Ideal) φ (g x) : EReal) = f a := by
  rw [Finset.sum_eq_single a]
  · rw [sitofp_eq, h]; simp
  · intro b _ hb
    rw [sitofp_eq, h, if_neg (fun e => hb (Fin.ext e))]; simp
  · intro h; exact absurd (Finset.mem_univ a) h

end Cert.Spec
end
-- ==== Proof.Arrays.lean ====
/- The kernel's arrays as functions of their coordinates, at any contents of the buffers. -/
module

public import proofs.«01_k».proof.Proof.Gen.KernelIdeal.Launch
public import proofs.«01_k».proof.Proof.Pure

@[expose] public section

set_option maxRecDepth 16384

noncomputable section

open Idealize.ShloMosaic Idealize.ShloMosaic.TcCoe Idealize.SL.Sem
open Idealize.ShloMosaic.Pipeline (Dat)

namespace Cert.KernelIdeal.Values

open Cert.KernelIdeal Cert.KernelIdeal.Gen

variable (V : (c : Dev nD) → (b : Ref sig .tc) → Buf (Elt Ideal) ((c : Thread nD τ).loc b))

/-- The decoded left basis. -/
abbrev u0L (c : Dev nD) : Fin 6 → Fin 1024 → Fin 1024 → EReal :=
  Spec.cube (φ := .bf16) (a := 6) (b := 1024) (c := 1024) (V c main_v0)
/-- The left error matrix. -/
abbrev eL (c : Dev nD) : Fin 6 → Fin 1024 → Fin 1024 → EReal :=
  Spec.cube (φ := .bf16) (a := 6) (b := 1024) (c := 1024) (V c main_v1)
/-- The corrected left basis. -/
abbrev uL (c : Dev nD) : Fin 6 → Fin 1024 → Fin 1024 → EReal :=
  Spec.cube (φ := .bf16) (a := 6) (b := 1024) (c := 1024) (V c main_v2)
/-- The decoded right basis. -/
abbrev u0R (c : Dev nD) : Fin 6 → Fin 3584 → Fin 3584 → EReal :=
  Spec.cube (φ := .bf16) (a := 6) (b := 3584) (c := 3584) (V c main_v3)
/-- The right error matrix. -/
abbrev eR (c : Dev nD) : Fin 6 → Fin 3584 → Fin 3584 → EReal :=
  Spec.cube (φ := .bf16) (a := 6) (b := 3584) (c := 3584) (V c main_v4)
/-- The corrected right basis. -/
abbrev uR (c : Dev nD) : Fin 6 → Fin 3584 → Fin 3584 → EReal :=
  Spec.cube (φ := .bf16) (a := 6) (b := 3584) (c := 3584) (V c main_v5)
/-- The left eigenvalues as columns. -/
abbrev lamL (c : Dev nD) : Fin 6 → Fin 1024 → Fin 1 → EReal :=
  Spec.cube (φ := .f32) (a := 6) (b := 1024) (c := 1) (V c main_v6)
/-- The gradient in the left basis. -/
abbrev t1A (c : Dev nD) : Fin 6 → Fin 1024 → Fin 3584 → EReal :=
  Spec.cube (φ := .bf16) (a := 6) (b := 1024) (c := 3584) (V c main_v7_0)
/-- The lanes of the reference direction. -/
abbrev anA (c : Dev nD) : Fin 6 → Fin 1 → Fin 512 → EReal :=
  Spec.cube (φ := .f32) (a := 6) (b := 1) (c := 512) (V c main_v7_2)
/-- The right eigenvalues as rows. -/
abbrev lamR (c : Dev nD) : Fin 6 → Fin 1 → Fin 3584 → EReal :=
  Spec.cube (φ := .f32) (a := 6) (b := 1) (c := 3584) (V c main_v8)
/-- The gradient in both bases. -/
abbrev t2A (c : Dev nD) : Fin 6 → Fin 1024 → Fin 3584 → EReal :=
  Spec.cube (φ := .bf16) (a := 6) (b := 1024) (c := 3584) (V c main_v9)
/-- The gradient out of the left basis. -/
abbrev t3A (c : Dev nD) : Fin 6 → Fin 1024 → Fin 3584 → EReal :=
  Spec.cube (φ := .bf16) (a := 6) (b := 1024) (c := 3584) (V c main_v10)
/-- The lanes of the preconditioned gradient. -/
abbrev pnA (c : Dev nD) : Fin 6 → Fin 1 → Fin 512 → EReal :=
  Spec.cube (φ := .f32) (a := 6) (b := 1) (c := 512) (V c main_v11_1)
/-- The gradient. -/
abbrev gA (c : Dev nD) : Fin 1024 → Fin 21504 → EReal :=
  Spec.mat (φ := .bf16) (a := 1024) (b := 21504) (V c main_arg0)
/-- The accumulator. -/
abbrev accA (c : Dev nD) : Fin 1024 → Fin 21504 → EReal :=
  Spec.mat (φ := .f32) (a := 1024) (b := 21504) (V c main_arg1)
/-- The preconditioned gradient. -/
abbrev pA (c : Dev nD) : Fin 1024 → Fin 21504 → EReal :=
  Spec.mat (φ := .f32) (a := 1024) (b := 21504) (V c main_v11_0)
/-- The left packed codes. -/
abbrev codesL (c : Dev nD) : Vec Ideal (Spec.A3 6 1024 512) .i8 := V c main_arg2
/-- The left group scales. -/
abbrev scalesL (c : Dev nD) : FVec Ideal (Spec.A3 6 1024 16) .f32 := V c main_arg3
/-- The right packed codes. -/
abbrev codesR (c : Dev nD) : Vec Ideal (Spec.A3 6 3584 1792) .i8 := V c main_arg5
/-- The right group scales. -/
abbrev scalesR (c : Dev nD) : FVec Ideal (Spec.A3 6 3584 56) .f32 := V c main_arg6
/-- The block a column of the flat array lies in. -/
abbrev blockOf (l : Fin 21504) : Fin 6 := ⟨l.val / 3584, by omega⟩
/-- A column's place in its block. -/
abbrev laneOf (l : Fin 21504) : Fin 3584 := ⟨l.val % 3584, by omega⟩

end Cert.KernelIdeal.Values
end
-- ==== Proof.Region0.lean ====
/- What the left decode kernel leaves in its output array. -/
module

public import proofs.«01_k».proof.Proof.Gen.KernelIdeal.Frame.Region0
public import proofs.«01_k».proof.Proof.Arrays
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Values

open Cert.KernelIdeal Cert.KernelIdeal.Gen

variable (V : (c : Dev nD) → (b : Ref sig .tc) → Buf (Elt Ideal) ((c : Thread nD τ).loc b))

/-- The windows' block indices at every grid point. -/
theorem idx0 : ∀ t : Fin cfg0.N, win0_0.index t = ![t.val / 2, t.val % 2, 0] ∧ win0_1.index t = ![t.val / 2, t.val % 2, 0]
    ∧ win0_2.index t = ![t.val / 2, t.val % 2, 0] :=
  (by decide +kernel : ∀ t : Fin grid0.N, _)

set_option maxHeartbeats 1000000 in
/-- The one-hot product spreads each group's scale over its 64 columns. -/
theorem spread0 (s : FVec Ideal S1x512x16 .f32) (r : Fin 512) (c : Fin 1024) :
    k0_pay3 (F := Ideal) s (ix2 r c) = s (ix3 0 r ⟨c.val / 64, by omega⟩) := by
  pointwise [k0_pay3]
  exact Spec.sum_onehot (fun x : Fin 16 => s (ix3 0 r x)) (fun x => BitVec.setWidth 32 (Spec.grp c.val x.val)) ⟨c.val / 64, by omega⟩
    (fun x => Spec.grp_eq c.val x.val (by omega) (by omega)) .f32

/-- The first half of the stored tile at coordinates. -/
theorem lo0 (s : FVec Ideal S1x512x16 .f32) (x : Vec Ideal S1x512x512 .i8) (z : Fin 1) (r : Fin 512) (c : Fin 512) :
    k0_pay1 (F := Ideal) (k0_pay3 s) (k0_pay5 (F := Ideal) x) (ix3 z r c)
      = Spec.nibLo (x (ix3 0 r c)) * s (ix3 0 r ⟨c.val / 64, by omega⟩) := by
  pointwise [k0_pay1, k0_pay5, k0_pay4, spread0]
  rw [Spec.sitofp_eq, Spec.lo_shift]
  rfl

/-- The second half of the stored tile at coordinates. -/
theorem hi0 (s : FVec Ideal S1x512x16 .f32) (x : Vec Ideal S1x512x512 .i8) (z : Fin 1) (r : Fin 512) (c : Fin 512) :
    k0_pay2 (F := Ideal) (k0_pay3 s) (k0_pay4 (F := Ideal) x) 24#32 (ix3 z r c)
      = Spec.nibHi (x (ix3 0 r c)) * s (ix3 0 r ⟨(512 + c.val) / 64, by omega⟩) := by
  pointwise [k0_pay2, k0_pay4, spread0]
  rw [Spec.sitofp_eq, Spec.hi_shift]
  rfl

set_option maxHeartbeats 1000000 in
/-- What the body stores at a grid point is the decoded basis where the tile sits. -/
theorem point0 (c : Dev nD) (t : Fin cfg0.N) (y : S1x512x1024.Idx) :
    out0_2 (F := Ideal) (iblk0 V c 0 t) (iblk0 V c 1 t) y
      = (fun j : S6x1024x1024.Idx => Spec.decL (codesL V c) (scalesL V c) (j 0) (j 1) (j 2)) (((cfg0.win 2).blk t).view.emb y) := by
  unfold_out out0_2
  canon_tiles x h
  case piece0 =>
    idx_vars x
    refine (hi0 _ _ _ _ _).trans ?_
    simp only [Spec.decL, codesL, scalesL]
    rw [dif_neg (by blk_simp [idx0 t]; omega)]
    pointwise
    blk_point [iblk0, idx0 t]
  case piece1 =>
    idx_vars x
    refine (lo0 _ _ _ _ _).trans ?_
    simp only [Spec.decL, codesL, scalesL]
    rw [dif_pos (by blk_simp [idx0 t]; omega)]
    pointwise
    blk_point [iblk0, idx0 t]

/-- The output array after the region. -/
theorem final0 (c : Dev nD) : (dat0 V c).arrAt 2 cfg0.N
      = (fun j : S6x1024x1024.Idx => Spec.decL (codesL V c) (scalesL V c) (j 0) (j 1) (j 2)) := by
  refine (dat0 V c).arrAt_eq_of_covers 2 _ (by decide +kernel) fun t _ y => ?_
  blk_simp
  rw [after0_2]
  exact point0 V c t y

end Cert.KernelIdeal.Values
end
-- ==== Proof.Region1.lean ====
/- What the left Gram kernel leaves in its output array. -/
module

public import proofs.«01_k».proof.Proof.Gen.KernelIdeal.Frame.Region1
public import proofs.«01_k».proof.Proof.Arrays
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Values

open Cert.KernelIdeal Cert.KernelIdeal.Gen

variable (V : (c : Dev nD) → (b : Ref sig .tc) → Buf (Elt Ideal) ((c : Thread nD τ).loc b))

/-- The windows' block indices at every grid point. -/
theorem idx1 : ∀ t : Fin cfg1.N, win1_0.index t = ![t.val, 0, 0] ∧ win1_1.index t = ![t.val, 0, 0] ∧ win1_2.index t = ![t.val, 0, 0]
    ∧ (grid1.coords t 1).val = 0 ∧ (grid1.coords t 2).val = 0 :=
  (by decide +kernel : ∀ t : Fin grid1.N, _)

/-- The body's stored tile at coordinates. -/
theorem pay1 (i : grid1.Coords) (x0 x1 : FVec Ideal S1x1024x1024 .bf16) (z : Fin 1) (r c : Fin 1024) :
    k1_pay1 (F := Ideal) i x0 x1 (ix3 z r c) = (∑ k : Fin 1024, x0 (ix3 0 k r) * x1 (ix3 0 k c))
      - if (i 1).val * 1024 + r.val = (i 2).val * 1024 + c.val then 1 else 0 := by
  have h1 : (i 1).val = 0 := Nat.lt_one_iff.1 (i 1).isLt
  have h2 : (i 2).val = 0 := Nat.lt_one_iff.1 (i 2).isLt
  rw [h1, h2]
  pointwise [k1_pay1]
  refine (Spec.sub_diag 0 0 1024 1024 r.val c.val (by omega) (by omega) _).trans ?_
  simp only [Nat.zero_mul, Nat.zero_add]

set_option maxHeartbeats 1000000 in
/-- What the body stores at a grid point is the array's formula where the tile sits. -/
theorem point1 (c : Dev nD) (t : Fin cfg1.N) (y : S1x1024x1024.Idx) :
    k1_pay1 (F := Ideal) (grid1.coords t) (iblk1 V c 0 t) (iblk1 V c 1 t) y
      = (fun j : S6x1024x1024.Idx => Spec.gram (u0L V c) (j 0) (j 1) (j 2)) (((cfg1.win 2).blk t).view.emb y) := by
  idx_vars y
  refine (pay1 _ _ _ _ _ _).trans ?_
  simp only [Spec.gram, u0L, u0R, Spec.cube]
  refine congrArg₂ (· - ·) ?_ ?_
  · blk_point [iblk1, idx1 t]
  · blk_simp [idx1 t]

/-- The output array after the region. -/
theorem final1 (c : Dev nD) : (dat1 V c).arrAt 2 cfg1.N
      = (fun j : S6x1024x1024.Idx => Spec.gram (u0L V c) (j 0) (j 1) (j 2)) := by
  refine (dat1 V c).arrAt_eq_of_covers 2 _ (by decide +kernel) fun t _ y => ?_
  blk_simp
  rw [after1_2]; frame_out
  exact point1 V c t y

end Cert.KernelIdeal.Values
end
-- ==== Proof.Region2.lean ====
/- What the left correction kernel leaves in its output array. -/
module

public import proofs.«01_k».proof.Proof.Gen.KernelIdeal.Frame.Region2
public import proofs.«01_k».proof.Proof.Arrays
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Values

open Cert.KernelIdeal Cert.KernelIdeal.Gen

variable (V : (c : Dev nD) → (b : Ref sig .tc) → Buf (Elt Ideal) ((c : Thread nD τ).loc b))

/-- The windows' block indices at every grid point. -/
theorem idx2 : ∀ t : Fin cfg2.N, win2_0.index t = ![t.val, 0, 0] ∧ win2_1.index t = ![t.val, 0, 0] ∧ win2_2.index t = ![t.val, 0, 0] ∧ win2_3.index t = ![t.val, 0, 0] :=
  (by decide +kernel : ∀ t : Fin grid2.N, _)

set_option maxHeartbeats 1000000 in
/-- What the body stores at a grid point is the array's formula where the tile sits. -/
theorem point2 (c : Dev nD) (t : Fin cfg2.N) (y : S1x1024x1024.Idx) :
    k2_pay1 (F := Ideal) (iblk2 V c 0 t) (iblk2 V c 1 t) (iblk2 V c 2 t) y
      = (fun j : S6x1024x1024.Idx => Spec.corr (u0L V c) (eL V c) (j 0) (j 1) (j 2)) (((cfg2.win 3).blk t).view.emb y) := by
  idx_vars y
  pointwise [k2_pay1]
  simp only [Spec.corr, u0L, eL, u0R, eR, Spec.cube]
  blk_point [iblk2, idx2 t]

/-- The output array after the region. -/
theorem final2 (c : Dev nD) : (dat2 V c).arrAt 3 cfg2.N
      = (fun j : S6x1024x1024.Idx => Spec.corr (u0L V c) (eL V c) (j 0) (j 1) (j 2)) := by
  refine (dat2 V c).arrAt_eq_of_covers 3 _ (by decide +kernel) fun t _ y => ?_
  blk_simp
  rw [after2_3]; frame_out
  exact point2 V c t y

end Cert.KernelIdeal.Values
end
-- ==== Proof.Region3.lean ====
/- What the right decode kernel leaves in its output array. -/
module

public import proofs.«01_k».proof.Proof.Gen.KernelIdeal.Frame.Region3
public import proofs.«01_k».proof.Proof.Arrays
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Values

open Cert.KernelIdeal Cert.KernelIdeal.Gen

variable (V : (c : Dev nD) → (b : Ref sig .tc) → Buf (Elt Ideal) ((c : Thread nD τ).loc b))

/-- The windows' block indices at every grid point. -/
theorem idx3 : ∀ t : Fin cfg3.N, win3_0.index t = ![t.val / 14, t.val % 14, 0] ∧ win3_1.index t = ![t.val / 14, t.val % 14, 0]
    ∧ win3_2.index t = ![t.val / 14, t.val % 14, 0] :=
  (by decide +kernel : ∀ t : Fin grid3.N, _)

set_option maxHeartbeats 1000000 in
/-- The one-hot product spreads each group's scale over its 64 columns. -/
theorem spread3 (s : FVec Ideal S1x256x56 .f32) (r : Fin 256) (c : Fin 3584) :
    k3_pay3 (F := Ideal) s (ix2 r c) = s (ix3 0 r ⟨c.val / 64, by omega⟩) := by
  pointwise [k3_pay3]
  exact Spec.sum_onehot (fun x : Fin 56 => s (ix3 0 r x)) (fun x => BitVec.setWidth 32 (Spec.grp c.val x.val)) ⟨c.val / 64, by omega⟩
    (fun x => Spec.grp_eq c.val x.val (by omega) (by omega)) .f32

/-- The first half of the stored tile at coordinates. -/
theorem lo3 (s : FVec Ideal S1x256x56 .f32) (x : Vec Ideal S1x256x1792 .i8) (z : Fin 1) (r : Fin 256) (c : Fin 1792) :
    k3_pay1 (F := Ideal) (k3_pay3 s) (k3_pay5 (F := Ideal) x) (ix3 z r c)
      = Spec.nibLo (x (ix3 0 r c)) * s (ix3 0 r ⟨c.val / 64, by omega⟩) := by
  pointwise [k3_pay1, k3_pay5, k3_pay4, spread3]
  rw [Spec.sitofp_eq, Spec.lo_shift]
  rfl

/-- The second half of the stored tile at coordinates. -/
theorem hi3 (s : FVec Ideal S1x256x56 .f32) (x : Vec Ideal S1x256x1792 .i8) (z : Fin 1) (r : Fin 256) (c : Fin 1792) :
    k3_pay2 (F := Ideal) (k3_pay3 s) (k3_pay4 (F := Ideal) x) 24#32 (ix3 z r c)
      = Spec.nibHi (x (ix3 0 r c)) * s (ix3 0 r ⟨(1792 + c.val) / 64, by omega⟩) := by
  pointwise [k3_pay2, k3_pay4, spread3]
  rw [Spec.sitofp_eq, Spec.hi_shift]
  rfl

set_option maxHeartbeats 1000000 in
/-- What the body stores at a grid point is the decoded basis where the tile sits. -/
theorem point3 (c : Dev nD) (t : Fin cfg3.N) (y : S1x256x3584.Idx) :
    out3_2 (F := Ideal) (iblk3 V c 0 t) (iblk3 V c 1 t) y
      = (fun j : S6x3584x3584.Idx => Spec.decR (codesR V c) (scalesR V c) (j 0) (j 1) (j 2)) (((cfg3.win 2).blk t).view.emb y) := by
  unfold_out out3_2
  canon_tiles x h
  case piece0 =>
    idx_vars x
    refine (hi3 _ _ _ _ _).trans ?_
    simp only [Spec.decR, codesR, scalesR]
    rw [dif_neg (by blk_simp [idx3 t]; omega)]
    pointwise
    blk_point [iblk3, idx3 t]
  case piece1 =>
    idx_vars x
    refine (lo3 _ _ _ _ _).trans ?_
    simp only [Spec.decR, codesR, scalesR]
    rw [dif_pos (by blk_simp [idx3 t]; omega)]
    pointwise
    blk_point [iblk3, idx3 t]

/-- The output array after the region. -/
theorem final3 (c : Dev nD) : (dat3 V c).arrAt 2 cfg3.N
      = (fun j : S6x3584x3584.Idx => Spec.decR (codesR V c) (scalesR V c) (j 0) (j 1) (j 2)) := by
  refine (dat3 V c).arrAt_eq_of_covers 2 _ (by decide +kernel) fun t _ y => ?_
  blk_simp
  rw [after3_2]
  exact point3 V c t y

end Cert.KernelIdeal.Values
end
-- ==== Proof.Region4.lean ====
/- What the right Gram kernel leaves in its output array. -/
module

public import proofs.«01_k».proof.Proof.Gen.KernelIdeal.Frame.Region4
public import proofs.«01_k».proof.Proof.Arrays
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Values

open Cert.KernelIdeal Cert.KernelIdeal.Gen

variable (V : (c : Dev nD) → (b : Ref sig .tc) → Buf (Elt Ideal) ((c : Thread nD τ).loc b))

/-- The windows' block indices at every grid point. -/
theorem idx4 : ∀ t : Fin cfg4.N, win4_0.index t = ![t.val / 14, 0, t.val / 2 % 7] ∧ win4_1.index t = ![t.val / 14, 0, t.val % 2]
    ∧ win4_2.index t = ![t.val / 14, t.val / 2 % 7, t.val % 2]
    ∧ (grid4.coords t 1).val = t.val / 2 % 7 ∧ (grid4.coords t 2).val = t.val % 2 :=
  (by decide +kernel : ∀ t : Fin grid4.N, _)

/-- The body's stored tile at coordinates. -/
theorem pay4 (i : grid4.Coords) (x0 : FVec Ideal S1x3584x512 .bf16) (x1 : FVec Ideal S1x3584x1792 .bf16) (z : Fin 1) (r : Fin 512) (c : Fin 1792) :
    k4_pay1 (F := Ideal) i x0 x1 (ix3 z r c) = (∑ k : Fin 3584, x0 (ix3 0 k r) * x1 (ix3 0 k c))
      - if (i 1).val * 512 + r.val = (i 2).val * 1792 + c.val then 1 else 0 := by
  have h1 : (i 1).val < 7 := (i 1).isLt
  have h2 : (i 2).val < 2 := (i 2).isLt
  pointwise [k4_pay1]
  exact Spec.sub_diag (i 1).val (i 2).val 512 1792 r.val c.val (by omega) (by omega) _

set_option maxHeartbeats 1000000 in
/-- What the body stores at a grid point is the array's formula where the tile sits. -/
theorem point4 (c : Dev nD) (t : Fin cfg4.N) (y : S1x512x1792.Idx) :
    k4_pay1 (F := Ideal) (grid4.coords t) (iblk4 V c 0 t) (iblk4 V c 1 t) y
      = (fun j : S6x3584x3584.Idx => Spec.gram (u0R V c) (j 0) (j 1) (j 2)) (((cfg4.win 2).blk t).view.emb y) := by
  idx_vars y
  refine (pay4 _ _ _ _ _ _).trans ?_
  simp only [Spec.gram, u0L, u0R, Spec.cube]
  refine congrArg₂ (· - ·) ?_ ?_
  · blk_point [iblk4, idx4 t]
  · blk_simp [idx4 t]

/-- The output array after the region. -/
theorem final4 (c : Dev nD) : (dat4 V c).arrAt 2 cfg4.N
      = (fun j : S6x3584x3584.Idx => Spec.gram (u0R V c) (j 0) (j 1) (j 2)) := by
  refine (dat4 V c).arrAt_eq_of_covers 2 _ (by decide +kernel) fun t _ y => ?_
  blk_simp
  rw [after4_2]; frame_out
  exact point4 V c t y

end Cert.KernelIdeal.Values
end
-- ==== Proof.Region5.lean ====
/- What the right correction kernel leaves in its output array. -/
module

public import proofs.«01_k».proof.Proof.Gen.KernelIdeal.Frame.Region5
public import proofs.«01_k».proof.Proof.Arrays
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Values

open Cert.KernelIdeal Cert.KernelIdeal.Gen

variable (V : (c : Dev nD) → (b : Ref sig .tc) → Buf (Elt Ideal) ((c : Thread nD τ).loc b))

/-- The windows' block indices at every grid point. -/
theorem idx5 : ∀ t : Fin cfg5.N, win5_0.index t = ![t.val / 14, t.val % 7, 0] ∧ win5_1.index t = ![t.val / 14, 0, t.val / 7 % 2]
    ∧ win5_2.index t = ![t.val / 14, t.val % 7, t.val / 7 % 2] ∧ win5_3.index t = ![t.val / 14, t.val % 7, t.val / 7 % 2] :=
  (by decide +kernel : ∀ t : Fin grid5.N, _)

set_option maxHeartbeats 1000000 in
/-- What the body stores at a grid point is the array's formula where the tile sits. -/
theorem point5 (c : Dev nD) (t : Fin cfg5.N) (y : S1x512x1792.Idx) :
    k5_pay1 (F := Ideal) (iblk5 V c 0 t) (iblk5 V c 1 t) (iblk5 V c 2 t) y
      = (fun j : S6x3584x3584.Idx => Spec.corr (u0R V c) (eR V c) (j 0) (j 1) (j 2)) (((cfg5.win 3).blk t).view.emb y) := by
  idx_vars y
  pointwise [k5_pay1]
  simp only [Spec.corr, u0L, eL, u0R, eR, Spec.cube]
  blk_point [iblk5, idx5 t]

/-- The output array after the region. -/
theorem final5 (c : Dev nD) : (dat5 V c).arrAt 3 cfg5.N
      = (fun j : S6x3584x3584.Idx => Spec.corr (u0R V c) (eR V c) (j 0) (j 1) (j 2)) := by
  refine (dat5 V c).arrAt_eq_of_covers 3 _ (by decide +kernel) fun t _ y => ?_
  blk_simp
  rw [after5_3]; frame_out
  exact point5 V c t y

end Cert.KernelIdeal.Values
end
-- ==== Proof.Region6.lean ====
/- What the kernel of the left product and the reference direction leaves in its three output arrays. -/
module

public import proofs.«01_k».proof.Proof.Gen.KernelIdeal.Frame.Region6
public import proofs.«01_k».proof.Proof.Arrays
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Values

open Cert.KernelIdeal Cert.KernelIdeal.Gen

variable (V : (c : Dev nD) → (b : Ref sig .tc) → Buf (Elt Ideal) ((c : Thread nD τ).loc b))

/-- The windows' block indices at every grid point. -/
theorem idx6 : ∀ t : Fin cfg6.N, win6_0.index t = ![t.val / 7, 0, 0] ∧ win6_1.index t = ![t.val / 7, 0, 0]
    ∧ win6_2.index t = ![0, t.val] ∧ win6_3.index t = ![0, t.val] ∧ win6_4.index t = ![t.val / 7, 0, t.val % 7]
    ∧ win6_5.index t = ![0, t.val] ∧ win6_6.index t = ![t.val / 7, 0, 0] :=
  (by decide +kernel : ∀ t : Fin grid6.N, _)

/-- The lanes start at zero. -/
theorem zero6 (j : S1x1x512.Idx) : k6_pay4 (F := Ideal) j = 0 := by pointwise [k6_pay4]

/-- Each point adds the squares of its tile down the rows. -/
theorem add6 (x0 : FVec Ideal S1024x512 .bf16) (x1 : FVec Ideal S1024x512 .f32) (a : FVec Ideal S1x1x512 .f32) (j : S1x1x512.Idx) :
    k6_pay1 (F := Ideal) (k6_pay5 a) (k6_pay6 x0 x1) j = a j + ∑ i : Fin 1024,
      Ideal.div (x0 (ix2 i (j 2))) (Ideal.sqrt (x1 (ix2 i (j 2))) + Ideal.ofBits .f32 0x322BCC77#32)
        * Ideal.div (x0 (ix2 i (j 2))) (Ideal.sqrt (x1 (ix2 i (j 2))) + Ideal.ofBits .f32 0x322BCC77#32) := by
  idx_vars j
  obtain rfl : j0 = 0 := Subsingleton.elim _ _
  obtain rfl : j1 = 0 := Subsingleton.elim _ _
  pointwise [k6_pay1, k6_pay5, k6_pay6, k6_pay3]

set_option maxHeartbeats 1000000 in
/-- The tile of window 4 stored at a grid point. -/
theorem point6_4 (c : Dev nD) (t : Fin cfg6.N) (y : S1x1024x512.Idx) :
    k6_pay2 (F := Ideal) (iblk6 V c 0 t) (iblk6 V c 2 t) (iblk6 V c 1 t) y
      = (fun j : S6x1024x3584.Idx => Spec.t1 (uL V c) (gA V c) (fun b j => lamL V c b j 0) (j 0) (j 1) (j 2)) (((cfg6.win 4).blk t).view.emb y) := by
  idx_vars y
  pointwise [k6_pay2]
  simp only [Spec.t1, Spec.damp, Spec.col, uL, gA, lamL, Spec.cube, Spec.mat]
  blk_point [iblk6, idx6 t]

set_option maxHeartbeats 1000000 in
/-- Window 4's array after the region. -/
theorem final6_4 (c : Dev nD) : (dat6 V c).arrAt 4 cfg6.N = (fun j : S6x1024x3584.Idx => Spec.t1 (uL V c) (gA V c) (fun b j => lamL V c b j 0) (j 0) (j 1) (j 2)) := by
  refine (dat6 V c).arrAt_eq_of_covers 4 _ (by decide +kernel) fun t _ y => ?_
  blk_simp
  rw [after6_4]
  by_cases h : t.val % 7 = 0
  · rw [outsAt6_A V c t h]; frame_out; exact point6_4 V c t y
  · rw [outsAt6_B V c t h]; frame_out; exact point6_4 V c t y

set_option maxHeartbeats 1000000 in
/-- The tile of window 5 stored at a grid point. -/
theorem point6_5 (c : Dev nD) (t : Fin cfg6.N) (y : S1024x512.Idx) :
    k6_pay3 (F := Ideal) (iblk6 V c 2 t) (iblk6 V c 3 t) y
      = (fun j : S1024x21504.Idx => Spec.ada (gA V c) (accA V c) (j 0) (j 1)) (((cfg6.win 5).blk t).view.emb y) := by
  idx_vars y
  pointwise [k6_pay3]
  simp only [Spec.ada, gA, accA, Spec.mat]
  blk_point [iblk6, idx6 t]

set_option maxHeartbeats 1000000 in
/-- Window 5's array after the region. -/
theorem final6_5 (c : Dev nD) : (dat6 V c).arrAt 5 cfg6.N = (fun j : S1024x21504.Idx => Spec.ada (gA V c) (accA V c) (j 0) (j 1)) := by
  refine (dat6 V c).arrAt_eq_of_covers 5 _ (by decide +kernel) fun t _ y => ?_
  blk_simp
  rw [after6_5]
  by_cases h : t.val % 7 = 0
  · rw [outsAt6_A V c t h]; frame_out; exact point6_5 V c t y
  · rw [outsAt6_B V c t h]; frame_out; exact point6_5 V c t y

set_option maxHeartbeats 2000000 in
/-- The lanes of squares of the reference direction after the region. -/
theorem final6_6 (c : Dev nD) : (dat6 V c).arrAt 6 cfg6.N = (fun j : S6x1x512.Idx => Spec.lanes (fun b i l => Spec.ada (gA V c) (accA V c) i (Spec.col b l)) (j 0) (j 2)) := by
  refine (dat6 V c).arrAt_eq_of_covers 6 _ (by decide +kernel) fun t hf y => ?_
  blk_simp
  rw [after6_6, Pipeline.eq_sum_fin_of_reset_step_apply_of_flush (fun n h => (outsAt6 V c n h).2.2) 7 (fun _ => 0) _
    (fun t h j => by rw [outsAt6_A V c t h]; frame_out; rw [add6, zero6])
    (fun t h j => by rw [outsAt6_B V c t h]; frame_out; rw [add6])
    t ((flush6_6 t).mp hf) _, zero_add]
  simp only [Spec.lanes, Spec.ada, Spec.col, gA, accA, Spec.mat]
  refine Fin.sum_fin_congr fun s => ?_
  blk_point [iblk6, idx6 t, idx6 ⟨_, Pipeline.run_point_lt_of_flush t ((flush6_6 t).mp hf) s⟩]

end Cert.KernelIdeal.Values
end
-- ==== Proof.Region7.lean ====
/- What the kernel of the right product leaves in its output array. -/
module

public import proofs.«01_k».proof.Proof.Gen.KernelIdeal.Frame.Region7
public import proofs.«01_k».proof.Proof.Arrays
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Values

open Cert.KernelIdeal Cert.KernelIdeal.Gen

variable (V : (c : Dev nD) → (b : Ref sig .tc) → Buf (Elt Ideal) ((c : Thread nD τ).loc b))

/-- The windows' block indices at every grid point. -/
theorem idx7 : ∀ t : Fin cfg7.N, win7_0.index t = ![t.val / 7, 0, 0] ∧ win7_1.index t = ![t.val / 7, 0, t.val % 7]
    ∧ win7_2.index t = ![t.val / 7, 0, t.val % 7] ∧ win7_3.index t = ![t.val / 7, 0, t.val % 7] :=
  (by decide +kernel : ∀ t : Fin grid7.N, _)

set_option maxHeartbeats 1000000 in
/-- What the body stores at a grid point is the array's formula where the tile sits. -/
theorem point7 (c : Dev nD) (t : Fin cfg7.N) (y : S1x1024x512.Idx) :
    k7_pay1 (F := Ideal) (iblk7 V c 0 t) (iblk7 V c 1 t) (iblk7 V c 2 t) y
      = (fun j : S6x1024x3584.Idx => Spec.t2 (t1A V c) (uR V c) (fun b e => lamR V c b 0 e) (j 0) (j 1) (j 2)) (((cfg7.win 3).blk t).view.emb y) := by
  idx_vars y
  pointwise [k7_pay1]
  simp only [Spec.t2, Spec.damp, t1A, uR, lamR, Spec.cube]
  blk_point [iblk7, idx7 t]

/-- The output array after the region. -/
theorem final7 (c : Dev nD) : (dat7 V c).arrAt 3 cfg7.N
      = (fun j : S6x1024x3584.Idx => Spec.t2 (t1A V c) (uR V c) (fun b e => lamR V c b 0 e) (j 0) (j 1) (j 2)) := by
  refine (dat7 V c).arrAt_eq_of_covers 3 _ (by decide +kernel) fun t _ y => ?_
  blk_simp
  rw [after7_3]; frame_out
  exact point7 V c t y

end Cert.KernelIdeal.Values
end
-- ==== Proof.Region8.lean ====
/- What the kernel of the left back-product leaves in its output array. -/
module

public import proofs.«01_k».proof.Proof.Gen.KernelIdeal.Frame.Region8
public import proofs.«01_k».proof.Proof.Arrays
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Values

open Cert.KernelIdeal Cert.KernelIdeal.Gen

variable (V : (c : Dev nD) → (b : Ref sig .tc) → Buf (Elt Ideal) ((c : Thread nD τ).loc b))

/-- The windows' block indices at every grid point. -/
theorem idx8 : ∀ t : Fin cfg8.N, win8_0.index t = ![t.val / 7, 0, 0] ∧ win8_1.index t = ![t.val / 7, 0, t.val % 7] ∧ win8_2.index t = ![t.val / 7, 0, t.val % 7] :=
  (by decide +kernel : ∀ t : Fin grid8.N, _)

set_option maxHeartbeats 1000000 in
/-- What the body stores at a grid point is the array's formula where the tile sits. -/
theorem point8 (c : Dev nD) (t : Fin cfg8.N) (y : S1x1024x512.Idx) :
    k8_pay1 (F := Ideal) (iblk8 V c 0 t) (iblk8 V c 1 t) y
      = (fun j : S6x1024x3584.Idx => Spec.t3 (uL V c) (t2A V c) (j 0) (j 1) (j 2)) (((cfg8.win 2).blk t).view.emb y) := by
  idx_vars y
  pointwise [k8_pay1]
  simp only [Spec.t3, uL, t2A, Spec.cube]
  blk_point [iblk8, idx8 t]

/-- The output array after the region. -/
theorem final8 (c : Dev nD) : (dat8 V c).arrAt 2 cfg8.N
      = (fun j : S6x1024x3584.Idx => Spec.t3 (uL V c) (t2A V c) (j 0) (j 1) (j 2)) := by
  refine (dat8 V c).arrAt_eq_of_covers 2 _ (by decide +kernel) fun t _ y => ?_
  blk_simp
  rw [after8_2]; frame_out
  exact point8 V c t y

end Cert.KernelIdeal.Values
end
-- ==== Proof.Region9.lean ====
/- What the kernel of the right back-product leaves in its two output arrays. -/
module

public import proofs.«01_k».proof.Proof.Gen.KernelIdeal.Frame.Region9
public import proofs.«01_k».proof.Proof.Arrays
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Values

open Cert.KernelIdeal Cert.KernelIdeal.Gen

variable (V : (c : Dev nD) → (b : Ref sig .tc) → Buf (Elt Ideal) ((c : Thread nD τ).loc b))

/-- The windows' block indices at every grid point. -/
theorem idx9 : ∀ t : Fin cfg9.N, win9_0.index t = ![t.val / 7, 0, 0] ∧ win9_1.index t = ![t.val / 7, t.val % 7, 0]
    ∧ win9_2.index t = ![0, t.val] ∧ win9_3.index t = ![t.val / 7, 0, 0] :=
  (by decide +kernel : ∀ t : Fin grid9.N, _)

/-- The lanes start at zero. -/
theorem zero9 (j : S1x1x512.Idx) : k9_pay2 (F := Ideal) j = 0 := by pointwise [k9_pay2]

/-- Each point adds the squares of its tile down the rows. -/
theorem add9 (x0 : FVec Ideal S1x1024x3584 .bf16) (x1 : FVec Ideal S1x512x3584 .bf16) (a : FVec Ideal S1x1x512 .f32) (j : S1x1x512.Idx) :
    k9_pay3 (F := Ideal) x0 x1 a j = a j + ∑ i : Fin 1024,
      (∑ e : Fin 3584, x0 (ix3 0 i e) * x1 (ix3 0 (j 2) e)) * ∑ e : Fin 3584, x0 (ix3 0 i e) * x1 (ix3 0 (j 2) e) := by
  idx_vars j
  obtain rfl : j0 = 0 := Subsingleton.elim _ _
  obtain rfl : j1 = 0 := Subsingleton.elim _ _
  pointwise [k9_pay3, k9_pay1]

set_option maxHeartbeats 1000000 in
/-- The tile of the product stored at a grid point. -/
theorem point9 (c : Dev nD) (t : Fin cfg9.N) (y : S1024x512.Idx) :
    k9_pay1 (F := Ideal) (iblk9 V c 0 t) (iblk9 V c 1 t) y
      = (fun j : S1024x21504.Idx => Spec.prec (t3A V c) (uR V c) (blockOf (j 1)) (j 0) (laneOf (j 1))) (((cfg9.win 2).blk t).view.emb y) := by
  idx_vars y
  pointwise [k9_pay1]
  simp only [Spec.prec, t3A, uR, Spec.cube, blockOf, laneOf]
  blk_point [iblk9, idx9 t]

set_option maxHeartbeats 1000000 in
/-- The preconditioned gradient after the region. -/
theorem final9_2 (c : Dev nD) : (dat9 V c).arrAt 2 cfg9.N = (fun j : S1024x21504.Idx => Spec.prec (t3A V c) (uR V c) (blockOf (j 1)) (j 0) (laneOf (j 1))) := by
  refine (dat9 V c).arrAt_eq_of_covers 2 _ (by decide +kernel) fun t _ y => ?_
  blk_simp
  rw [after9_2]
  by_cases h : t.val % 7 = 0
  · rw [outsAt9_A V c t h]; frame_out; exact point9 V c t y
  · rw [outsAt9_B V c t h]; frame_out; exact point9 V c t y

set_option maxHeartbeats 2000000 in
/-- Its lanes of squares after the region. -/
theorem final9_3 (c : Dev nD) : (dat9 V c).arrAt 3 cfg9.N = (fun j : S6x1x512.Idx => Spec.lanes (Spec.prec (t3A V c) (uR V c)) (j 0) (j 2)) := by
  refine (dat9 V c).arrAt_eq_of_covers 3 _ (by decide +kernel) fun t hf y => ?_
  blk_simp
  rw [after9_3, Pipeline.eq_sum_fin_of_reset_step_apply_of_flush (fun n h => (outsAt9 V c n h).2) 7 (fun _ => 0) _
    (fun t h j => by rw [outsAt9_A V c t h]; frame_out; rw [add9, zero9])
    (fun t h j => by rw [outsAt9_B V c t h]; frame_out; rw [add9])
    t ((flush9_3 t).mp hf) _, zero_add]
  simp only [Spec.lanes, Spec.prec, t3A, uR, Spec.cube]
  refine Fin.sum_fin_congr fun s => ?_
  blk_point [iblk9, idx9 t, idx9 ⟨_, Pipeline.run_point_lt_of_flush t ((flush9_3 t).mp hf) s⟩]

end Cert.KernelIdeal.Values
end
-- ==== Proof.Region10.lean ====
/- What the grafting kernel leaves in the update. -/
module

public import proofs.«01_k».proof.Proof.Gen.KernelIdeal.Frame.Region10
public import proofs.«01_k».proof.Proof.Arrays
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Values

open Cert.KernelIdeal Cert.KernelIdeal.Gen

variable (V : (c : Dev nD) → (b : Ref sig .tc) → Buf (Elt Ideal) ((c : Thread nD τ).loc b))

/-- The windows' block indices at every grid point. -/
theorem idx10 : ∀ t : Fin cfg10.N, win10_0.index t = ![0, t.val] ∧ win10_1.index t = ![t.val / 7, 0, 0] ∧ win10_2.index t = ![t.val / 7, 0, 0] ∧ win10_3.index t = ![0, t.val] :=
  (by decide +kernel : ∀ t : Fin grid10.N, _)

set_option maxHeartbeats 1000000 in
/-- What the body stores at a grid point is the array's formula where the tile sits. -/
theorem point10 (c : Dev nD) (t : Fin cfg10.N) (y : S1024x512.Idx) :
    k10_pay1 (F := Ideal) (iblk10 V c 1 t) (iblk10 V c 2 t) (iblk10 V c 0 t) y
      = (fun j : S1024x21504.Idx => Spec.graft (pA V c (j 0) (j 1)) (Spec.norm (fun b l => pnA V c b 0 l) (blockOf (j 1))) (Spec.norm (fun b l => anA V c b 0 l) (blockOf (j 1)))) (((cfg10.win 3).blk t).view.emb y) := by
  idx_vars y
  pointwise [k10_pay1]
  simp only [Spec.graft, Spec.norm, pA, pnA, anA, Spec.cube, Spec.mat, blockOf]
  blk_point [iblk10, idx10 t]

/-- The output array after the region. -/
theorem final10 (c : Dev nD) : (dat10 V c).arrAt 3 cfg10.N
      = (fun j : S1024x21504.Idx => Spec.graft (pA V c (j 0) (j 1)) (Spec.norm (fun b l => pnA V c b 0 l) (blockOf (j 1))) (Spec.norm (fun b l => anA V c b 0 l) (blockOf (j 1)))) := by
  refine (dat10 V c).arrAt_eq_of_covers 3 _ (by decide +kernel) fun t _ y => ?_
  blk_simp
  rw [after10_3]; frame_out
  exact point10 V c t y

end Cert.KernelIdeal.Values
end
-- ==== Proof.Chain.lean ====
/- The kernel's two results as functions of its arguments: each region's result array, carried through the later
   boundaries of the run to the regions that read it. -/
module

public import proofs.«01_k».proof.Proof.KernelRun
public import proofs.«01_k».proof.Proof.Region0
public import proofs.«01_k».proof.Proof.Region1
public import proofs.«01_k».proof.Proof.Region2
public import proofs.«01_k».proof.Proof.Region3
public import proofs.«01_k».proof.Proof.Region4
public import proofs.«01_k».proof.Proof.Region5
public import proofs.«01_k».proof.Proof.Region6
public import proofs.«01_k».proof.Proof.Region7
public import proofs.«01_k».proof.Proof.Region8
public import proofs.«01_k».proof.Proof.Region9
public import proofs.«01_k».proof.Proof.Region10
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.Ideal
open Idealize.ShloMosaic.Pipeline (Dat)

namespace Cert.KernelIdeal.Values

open Cert.KernelIdeal Cert.KernelIdeal.Gen

variable (m : (ℓ : Loc nD τ sig) → Buf (Elt Ideal) ℓ) (ρ : Dev nD → PrngReg)

/-- The corrected left basis of the launch arguments. -/
def basisL (c : Dev nD) : Fin 6 → Fin 1024 → Fin 1024 → EReal :=
  Spec.basis (Spec.decL (codesL (V0 m ρ) c) (scalesL (V0 m ρ) c))
/-- The corrected right basis of the launch arguments. -/
def basisR (c : Dev nD) : Fin 6 → Fin 3584 → Fin 3584 → EReal :=
  Spec.basis (Spec.decR (codesR (V0 m ρ) c) (scalesR (V0 m ρ) c))
/-- The left eigenvalues at launch. -/
abbrev eigL (c : Dev nD) : Fin 6 → Fin 1024 → EReal := Spec.mat (φ := .f32) (a := 6) (b := 1024) (V0 m ρ c main_arg4)
/-- The right eigenvalues at launch. -/
abbrev eigR (c : Dev nD) : Fin 6 → Fin 3584 → EReal := Spec.mat (φ := .f32) (a := 6) (b := 3584) (V0 m ρ c main_arg7)
/-- The preconditioned gradient of the launch arguments, block by block. -/
def precond (c : Dev nD) : Fin 6 → Fin 1024 → Fin 3584 → EReal :=
  Spec.prec (Spec.t3 (basisL m ρ c) (Spec.t2 (Spec.t1 (basisL m ρ c) (gA (V0 m ρ) c) (eigL m ρ c)) (basisR m ρ c) (eigR m ρ c)))
    (basisR m ρ c)
/-- The reference direction of the launch arguments, block by block. -/
def direction (c : Dev nD) : Fin 6 → Fin 1024 → Fin 3584 → EReal :=
  fun b i l => Spec.ada (gA (V0 m ρ) c) (accA (V0 m ρ) c) i (Spec.col b l)

/-- The decoded left basis after region 0. -/
theorem u0L_at1 (c : Dev nD) : u0L (V1 m ρ) c = Spec.decL (codesL (V0 m ρ) c) (scalesL (V0 m ρ) c) := by
  funext b i k
  refine (congrFun ((W1_arr m ρ c 2).trans (final0 (V0 m ρ) c)) (ix3 b i k)).trans ?_
  rfl

/-- The left error matrix after region 1. -/
theorem eL_at2 (c : Dev nD) : eL (V2 m ρ) c = Spec.gram (u0L (V1 m ρ) c) := by
  funext b i k
  refine (congrFun ((W2_arr m ρ c 2).trans (final1 (V1 m ρ) c)) (ix3 b i k)).trans ?_
  rfl

/-- Region 1 keeps the decoded left basis. -/
theorem keep_main_v0_2 (c : Dev nD) : V2 m ρ c main_v0 = V1 m ρ c main_v0 :=
  (W2_of m ρ c main_v0 (by decide +kernel))

/-- The corrected left basis after region 2. -/
theorem uL_at3 (c : Dev nD) : uL (V3 m ρ) c = basisL m ρ c := by
  funext b i k
  refine (congrFun ((W3_arr m ρ c 3).trans (final2 (V2 m ρ) c)) (ix3 b i k)).trans ?_
  change Spec.corr (u0L (V2 m ρ) c) (eL (V2 m ρ) c) b i k = _
  rw [eL_at2, show u0L (V2 m ρ) c = u0L (V1 m ρ) c from by unfold u0L; rw [keep_main_v0_2], u0L_at1]
  rfl

/-- Argument 5 at boundary 3 is as launched. -/
theorem arg5_at3 (c : Dev nD) : V3 m ρ c main_arg5 = V0 m ρ c main_arg5 :=
  W3_args m ρ c main_arg5 (by decide)

/-- Argument 6 at boundary 3 is as launched. -/
theorem arg6_at3 (c : Dev nD) : V3 m ρ c main_arg6 = V0 m ρ c main_arg6 :=
  W3_args m ρ c main_arg6 (by decide)

/-- The decoded right basis after region 3. -/
theorem u0R_at4 (c : Dev nD) : u0R (V4 m ρ) c = Spec.decR (codesR (V0 m ρ) c) (scalesR (V0 m ρ) c) := by
  funext b i k
  refine (congrFun ((W4_arr m ρ c 2).trans (final3 (V3 m ρ) c)) (ix3 b i k)).trans ?_
  change Spec.decR (codesR (V3 m ρ) c) (scalesR (V3 m ρ) c) b i k = _
  unfold codesR scalesR
  rw [arg5_at3, arg6_at3]

/-- The right error matrix after region 4. -/
theorem eR_at5 (c : Dev nD) : eR (V5 m ρ) c = Spec.gram (u0R (V4 m ρ) c) := by
  funext b i k
  refine (congrFun ((W5_arr m ρ c 2).trans (final4 (V4 m ρ) c)) (ix3 b i k)).trans ?_
  rfl

/-- Region 4 keeps the decoded right basis. -/
theorem keep_main_v3_5 (c : Dev nD) : V5 m ρ c main_v3 = V4 m ρ c main_v3 :=
  (W5_of m ρ c main_v3 (by decide +kernel))

/-- The corrected right basis after region 5. -/
theorem uR_at6 (c : Dev nD) : uR (V6 m ρ) c = basisR m ρ c := by
  funext b i k
  refine (congrFun ((W6_arr m ρ c 3).trans (final5 (V5 m ρ) c)) (ix3 b i k)).trans ?_
  change Spec.corr (u0R (V5 m ρ) c) (eR (V5 m ρ) c) b i k = _
  rw [eR_at5, show u0R (V5 m ρ) c = u0R (V4 m ρ) c from by unfold u0R; rw [keep_main_v3_5], u0R_at4]
  rfl

/-- The corrected left basis reaches region 6. -/
theorem keep_main_v2_7 (c : Dev nD) : V7 m ρ c main_v2 = V3 m ρ c main_v2 :=
  ((((W7_of m ρ c main_v2 (by decide +kernel))).trans (W6_of m ρ c main_v2 (by decide +kernel))).trans (W5_of m ρ c main_v2 (by decide +kernel))).trans (W4_of m ρ c main_v2 (by decide +kernel))

/-- Argument 0 at boundary 7 is as launched. -/
theorem arg0_at7 (c : Dev nD) : V7 m ρ c main_arg0 = V0 m ρ c main_arg0 :=
  W7_args m ρ c main_arg0 (by decide)

/-- Argument 1 at boundary 7 is as launched. -/
theorem arg1_at7 (c : Dev nD) : V7 m ρ c main_arg1 = V0 m ρ c main_arg1 :=
  W7_args m ρ c main_arg1 (by decide)

/-- Argument 4 at boundary 6 is as launched. -/
theorem arg4_at6 (c : Dev nD) : V6 m ρ c main_arg4 = V0 m ρ c main_arg4 :=
  W6_args m ρ c main_arg4 (by decide)

/-- Argument 7 at boundary 8 is as launched. -/
theorem arg7_at8 (c : Dev nD) : V8 m ρ c main_arg7 = V0 m ρ c main_arg7 :=
  W8_args m ρ c main_arg7 (by decide)

/-- An array read as columns. -/
theorem column_apply (X : FVec Ideal S6x1024 .f32) (b : Fin 6) (j : Fin 1024) :
    shapeCast S6x1024x1 X shapeCasts_S6x1024_S6x1024x1 (ix3 b j 0) = X (ix2 b j) := by
  pointwise

/-- An array read as rows. -/
theorem row_apply (X : FVec Ideal S6x3584 .f32) (b : Fin 6) (e : Fin 3584) :
    shapeCast S6x1x3584 X shapeCasts_S6x3584_S6x1x3584 (ix3 b 0 e) = X (ix2 b e) := by
  pointwise

/-- The left eigenvalues as region 6 reads them. -/
theorem lamL_at7 (c : Dev nD) : (fun b j => lamL (V7 m ρ) c b j 0) = eigL m ρ c := by
  funext b j
  have h : V7 m ρ c main_v6 = shapeCast _ (V6 m ρ c main_arg4) shapeCasts_S6x1024_S6x1024x1 := rfl
  change V7 m ρ c main_v6 (ix3 b j 0) = V0 m ρ c main_arg4 (ix2 b j)
  rw [h, arg4_at6]
  exact column_apply _ b j
/-- The right eigenvalues as region 7 reads them. -/
theorem lamR_at9 (c : Dev nD) : (fun b e => lamR (V9 m ρ) c b 0 e) = eigR m ρ c := by
  funext b e
  have h : V9 m ρ c main_v8 = shapeCast _ (V8 m ρ c main_arg7) shapeCasts_S6x3584_S6x1x3584 := rfl
  change V9 m ρ c main_v8 (ix3 b 0 e) = V0 m ρ c main_arg7 (ix2 b e)
  rw [h, arg7_at8]
  exact row_apply _ b e
/-- The gradient at region 6. -/
theorem gA_at7 (c : Dev nD) : gA (V7 m ρ) c = gA (V0 m ρ) c := by unfold gA; rw [arg0_at7]
/-- The accumulator at region 6. -/
theorem accA_at7 (c : Dev nD) : accA (V7 m ρ) c = accA (V0 m ρ) c := by unfold accA; rw [arg1_at7]
/-- The corrected left basis at region 6. -/
theorem uL_at7 (c : Dev nD) : uL (V7 m ρ) c = basisL m ρ c := by
  rw [show uL (V7 m ρ) c = uL (V3 m ρ) c from by unfold uL; rw [keep_main_v2_7], uL_at3]
/-- The gradient in the left basis after region 6. -/
theorem t1_at8 (c : Dev nD) : t1A (V8 m ρ) c = Spec.t1 (basisL m ρ c) (gA (V0 m ρ) c) (eigL m ρ c) := by
  funext b i k
  refine (congrFun ((W8_arr m ρ c 4).trans (final6_4 (V7 m ρ) c)) (ix3 b i k)).trans ?_
  change Spec.t1 (uL (V7 m ρ) c) (gA (V7 m ρ) c) (fun b j => lamL (V7 m ρ) c b j 0) b i k = _
  rw [uL_at7, gA_at7, lamL_at7]
/-- The reference direction after region 6. -/
theorem ada_at8 (c : Dev nD) : V8 m ρ c main_v7_1
    = (fun j : S1024x21504.Idx => Spec.ada (gA (V0 m ρ) c) (accA (V0 m ρ) c) (j 0) (j 1)) := by
  refine ((W8_arr m ρ c 5).trans (final6_5 (V7 m ρ) c)).trans ?_
  rw [gA_at7, accA_at7]
/-- The lanes of the reference direction after region 6. -/
theorem an_at8 (c : Dev nD) : (fun b l => anA (V8 m ρ) c b 0 l) = Spec.lanes (direction m ρ c) := by
  funext b l
  refine (congrFun ((W8_arr m ρ c 6).trans (final6_6 (V7 m ρ) c)) (ix3 b 0 l)).trans ?_
  rw [gA_at7, accA_at7]
  rfl

/-- The gradient in the left basis reaches region 7. -/
theorem keep_main_v7_0_9 (c : Dev nD) : V9 m ρ c main_v7_0 = V8 m ρ c main_v7_0 :=
  (W9_of m ρ c main_v7_0 (by decide +kernel))

/-- The corrected right basis reaches region 7. -/
theorem keep_main_v5_9 (c : Dev nD) : V9 m ρ c main_v5 = V6 m ρ c main_v5 :=
  (((W9_of m ρ c main_v5 (by decide +kernel))).trans (W8_of m ρ c main_v5 (by decide +kernel))).trans (W7_of m ρ c main_v5 (by decide +kernel))

/-- The corrected right basis reaches region 9. -/
theorem keep_main_v5_11 (c : Dev nD) : V11 m ρ c main_v5 = V9 m ρ c main_v5 :=
  ((W11_of m ρ c main_v5 (by decide +kernel))).trans (W10_of m ρ c main_v5 (by decide +kernel))

/-- The corrected left basis reaches region 8. -/
theorem keep_main_v2_10 (c : Dev nD) : V10 m ρ c main_v2 = V7 m ρ c main_v2 :=
  (((W10_of m ρ c main_v2 (by decide +kernel))).trans (W9_of m ρ c main_v2 (by decide +kernel))).trans (W8_of m ρ c main_v2 (by decide +kernel))

/-- The lanes of the reference direction reach region 10. -/
theorem keep_main_v7_2_12 (c : Dev nD) : V12 m ρ c main_v7_2 = V8 m ρ c main_v7_2 :=
  ((((W12_of m ρ c main_v7_2 (by decide +kernel))).trans (W11_of m ρ c main_v7_2 (by decide +kernel))).trans (W10_of m ρ c main_v7_2 (by decide +kernel))).trans (W9_of m ρ c main_v7_2 (by decide +kernel))

/-- The reference direction is left as region 6 wrote it. -/
theorem keep_main_v7_1_13 (c : Dev nD) : V13 m ρ c main_v7_1 = V8 m ρ c main_v7_1 :=
  (((((W13_of m ρ c main_v7_1 (by decide +kernel))).trans (W12_of m ρ c main_v7_1 (by decide +kernel))).trans (W11_of m ρ c main_v7_1 (by decide +kernel))).trans (W10_of m ρ c main_v7_1 (by decide +kernel))).trans (W9_of m ρ c main_v7_1 (by decide +kernel))

/-- The corrected right basis at region 7. -/
theorem uR_at9 (c : Dev nD) : uR (V9 m ρ) c = basisR m ρ c := by
  rw [show uR (V9 m ρ) c = uR (V6 m ρ) c from by unfold uR; rw [keep_main_v5_9], uR_at6]
/-- The gradient in both bases after region 7. -/
theorem t2_at10 (c : Dev nD) : t2A (V10 m ρ) c
    = Spec.t2 (Spec.t1 (basisL m ρ c) (gA (V0 m ρ) c) (eigL m ρ c)) (basisR m ρ c) (eigR m ρ c) := by
  funext b i k
  refine (congrFun ((W10_arr m ρ c 3).trans (final7 (V9 m ρ) c)) (ix3 b i k)).trans ?_
  change Spec.t2 (t1A (V9 m ρ) c) (uR (V9 m ρ) c) (fun b e => lamR (V9 m ρ) c b 0 e) b i k = _
  rw [show t1A (V9 m ρ) c = t1A (V8 m ρ) c from by unfold t1A; rw [keep_main_v7_0_9], t1_at8, uR_at9, lamR_at9]
/-- The gradient out of the left basis after region 8. -/
theorem t3_at11 (c : Dev nD) : t3A (V11 m ρ) c = Spec.t3 (basisL m ρ c)
    (Spec.t2 (Spec.t1 (basisL m ρ c) (gA (V0 m ρ) c) (eigL m ρ c)) (basisR m ρ c) (eigR m ρ c)) := by
  funext b i k
  refine (congrFun ((W11_arr m ρ c 2).trans (final8 (V10 m ρ) c)) (ix3 b i k)).trans ?_
  change Spec.t3 (uL (V10 m ρ) c) (t2A (V10 m ρ) c) b i k = _
  rw [show uL (V10 m ρ) c = uL (V7 m ρ) c from by unfold uL; rw [keep_main_v2_10], uL_at7, t2_at10]
/-- The corrected right basis at region 9. -/
theorem uR_at11 (c : Dev nD) : uR (V11 m ρ) c = basisR m ρ c := by
  rw [show uR (V11 m ρ) c = uR (V9 m ρ) c from by unfold uR; rw [keep_main_v5_11], uR_at9]
/-- The preconditioned gradient after region 9. -/
theorem p_at12 (c : Dev nD) : pA (V12 m ρ) c = fun i l => precond m ρ c (blockOf l) i (laneOf l) := by
  funext i l
  refine (congrFun ((W12_arr m ρ c 2).trans (final9_2 (V11 m ρ) c)) (ix2 i l)).trans ?_
  change Spec.prec (t3A (V11 m ρ) c) (uR (V11 m ρ) c) (blockOf l) i (laneOf l) = _
  rw [t3_at11, uR_at11]
  rfl
/-- The lanes of the preconditioned gradient after region 9. -/
theorem pn_at12 (c : Dev nD) : (fun b l => pnA (V12 m ρ) c b 0 l) = Spec.lanes (precond m ρ c) := by
  funext b l
  refine (congrFun ((W12_arr m ρ c 3).trans (final9_3 (V11 m ρ) c)) (ix3 b 0 l)).trans ?_
  change Spec.lanes (Spec.prec (t3A (V11 m ρ) c) (uR (V11 m ρ) c)) b l = _
  rw [t3_at11, uR_at11]
  rfl
/-- The lanes of the reference direction at region 10. -/
theorem an_at12 (c : Dev nD) : (fun b l => anA (V12 m ρ) c b 0 l) = Spec.lanes (direction m ρ c) := by
  rw [show (fun b l => anA (V12 m ρ) c b 0 l) = fun b l => anA (V8 m ρ) c b 0 l from by unfold anA; rw [keep_main_v7_2_12], an_at8]
/-- The kernel's update, entry by entry. -/
theorem update_eq (c : Dev nD) (i : Fin 1024) (l : Fin 21504) : V13 m ρ c main_v12 (ix2 i l)
    = Spec.graft (precond m ρ c (blockOf l) i (laneOf l)) (Spec.norm (Spec.lanes (precond m ρ c)) (blockOf l))
        (Spec.norm (Spec.lanes (direction m ρ c)) (blockOf l)) := by
  refine (congrFun ((W13_arr m ρ c 3).trans (final10 (V12 m ρ) c)) (ix2 i l)).trans ?_
  change Spec.graft (pA (V12 m ρ) c i l) (Spec.norm (fun b l => pnA (V12 m ρ) c b 0 l) (blockOf l))
    (Spec.norm (fun b l => anA (V12 m ρ) c b 0 l) (blockOf l)) = _
  rw [p_at12, pn_at12, an_at12]
/-- The kernel's reference direction, entry by entry. -/
theorem direction_eq (c : Dev nD) (i : Fin 1024) (l : Fin 21504) : V13 m ρ c main_v7_1 (ix2 i l)
    = Spec.ada (gA (V0 m ρ) c) (accA (V0 m ρ) c) i l := by
  rw [keep_main_v7_1_13, ada_at8]
  rfl

end Cert.KernelIdeal.Values

end
-- ==== Proof.RefPure.lean ====
/- Facts of the ideal arithmetic that only the reference and the precondition meet. -/
module

public import proofs.«01_k».proof.Proof.Spec
public import Idealize.ShloMosaic.Lib.IdealHost
public import Idealize.ShloMosaic.Lib.Pointwise

@[expose] public section

set_option maxRecDepth 16384

noncomputable section

namespace Cert.Spec

open Idealize.ShloMosaic

/-- The exponent's pattern is minus a quarter. -/
theorem quarter : Ideal.ofBits .f32 0xBE800000#32 = ((-(1 / 4) : ℝ) : EReal) := by
  simp [Ideal.ofBits, Ideal.ieee, -EReal.coe_mul, -EReal.coe_neg]
  norm_num

/-- The power minus a quarter of a positive number is the reciprocal square root of its square root. -/
theorem pow_quarter (x : EReal) (h : 0 < x) :
    Ideal.pow x (Ideal.ofBits .f32 0xBE800000#32) = Ideal.rsqrt (Ideal.sqrt x) := by
  rw [quarter]
  induction x with
  | bot => exact absurd h (by simp)
  | top =>
    have h1 : ¬ ((0 : EReal) < ((-(1 / 4) : ℝ) : EReal)) := by
      rw [← EReal.coe_zero, EReal.coe_lt_coe_iff]; norm_num
    have h2 : ¬ (((-(1 / 4) : ℝ) : EReal) = 0) := by
      rw [← EReal.coe_zero, EReal.coe_eq_coe_iff]; norm_num
    show (if (0 : EReal) < ((-(1 / 4) : ℝ) : EReal) then ⊤ else if ((-(1 / 4) : ℝ) : EReal) = 0 then 1 else 0) = (0 : EReal)
    rw [if_neg h1, if_neg h2]
  | coe r =>
    have hr : 0 < r := by rwa [← EReal.coe_zero, EReal.coe_lt_coe_iff] at h
    have hs : 0 < Real.sqrt r := Real.sqrt_pos.2 hr
    rw [Ideal.pow_coe_coe, Ideal.sqrt_coe, if_neg (not_lt.2 hr.le), Ideal.rsqrt_coe, if_neg (not_lt.2 hs.le), if_neg hs.ne']
    congr 1
    show r ^ (-(1 / 4) : ℝ) = _
    rw [Real.rpow_neg hr.le, Real.sqrt_eq_rpow (Real.sqrt r), Real.sqrt_eq_rpow, ← Real.rpow_mul hr.le]
    norm_num

/-- A host reduction over the outer and inner axes of three is the sum over both. -/
theorem hostReduce_outer_inner {a b c : ℕ} (h : (A3 a b c).ReducesTo [0, 2] ⟨1, ![b]⟩) (v : (A3 a b c).Idx → EReal) (z : EReal) (k : Fin b) :
    Ideal.hostReduceAdd h v z (ix1 k) = z + ∑ i : Fin a, ∑ l : Fin c, v (ix3 i k l) := by
  refine congrArg (z + ·) ?_
  rw [Finset.sum_filter_eq_sum_of_fiber (κ := Fin a × Fin c) _ (fun q => ix3 q.1 k q.2)
    (fun p q e => Prod.ext (congrFun e 0) (congrFun e 2)), Fintype.sum_prod_type]
  intro i
  constructor
  · intro e
    refine ⟨(i 0, i 2), ?_⟩
    funext x; apply Fin.ext
    match x with
    | ⟨0, _⟩ => rfl
    | ⟨1, _⟩ => exact (congrArg Fin.val (congrFun e 0)).symm
    | ⟨2, _⟩ => rfl
  · rintro ⟨q, rfl⟩
    funext x; apply Fin.ext
    match x with
    | ⟨0, _⟩ => rfl

/-- The lanes' sums add up to the sum over the block. -/
theorem norm_lanes (X : Fin 6 → Fin 1024 → Fin 3584 → EReal) (b : Fin 6) :
    norm (lanes X) b = Ideal.sqrt (∑ i, ∑ l, X b i l * X b i l) := by
  unfold norm lanes
  congr 1
  rw [Finset.sum_comm, Finset.sum_comm (s := (Finset.univ : Finset (Fin 1024))),
    Fin.sum_univ_tiles 7 512 rfl (fun l : Fin 3584 => ∑ i, X b i l * X b i l)]

end Cert.Spec
end
-- ==== Proof.RefValue.lean ====
/- The reference's two results as the same functions of its arguments as the kernel's. -/
module

public import proofs.«01_k».proof.Proof.Gen.ReferenceIdeal.Run
public import proofs.«01_k».proof.Proof.Pure
public import proofs.«01_k».proof.Proof.RefPure
public import Idealize.ShloMosaic.Lib.Pointwise

@[expose] public section

set_option maxRecDepth 16384

noncomputable section

open Idealize.ShloMosaic Idealize.ShloMosaic.TcCoe Idealize.SL.Sem

namespace Cert.ReferenceIdeal.Values

open Cert.ReferenceIdeal Cert.ReferenceIdeal.Gen Cert.ReferenceIdeal.Value

variable (L : Valuation τ sig (Elt Ideal))

/-- The gradient. -/
abbrev gA : Fin 1024 → Fin 21504 → EReal := Spec.mat (φ := .bf16) (a := 1024) (b := 21504) (L (Proc.devRef .tc main_arg0))
/-- The accumulator. -/
abbrev accA : Fin 1024 → Fin 21504 → EReal := Spec.mat (φ := .f32) (a := 1024) (b := 21504) (L (Proc.devRef .tc main_arg1))
/-- The left packed codes. -/
abbrev codesL : Vec Ideal (Spec.A3 6 1024 512) .i8 := L (Proc.devRef .tc main_arg2)
/-- The left group scales. -/
abbrev scalesL : FVec Ideal (Spec.A3 6 1024 16) .f32 := L (Proc.devRef .tc main_arg3)
/-- The left eigenvalues. -/
abbrev eigL : Fin 6 → Fin 1024 → EReal := Spec.mat (φ := .f32) (a := 6) (b := 1024) (L (Proc.devRef .tc main_arg4))
/-- The right packed codes. -/
abbrev codesR : Vec Ideal (Spec.A3 6 3584 1792) .i8 := L (Proc.devRef .tc main_arg5)
/-- The right group scales. -/
abbrev scalesR : FVec Ideal (Spec.A3 6 3584 56) .f32 := L (Proc.devRef .tc main_arg6)
/-- The right eigenvalues. -/
abbrev eigR : Fin 6 → Fin 3584 → EReal := Spec.mat (φ := .f32) (a := 6) (b := 3584) (L (Proc.devRef .tc main_arg7))
/-- The corrected left basis. -/
def basisL : Fin 6 → Fin 1024 → Fin 1024 → EReal := Spec.basis (Spec.decL (codesL L) (scalesL L))
/-- The corrected right basis. -/
def basisR : Fin 6 → Fin 3584 → Fin 3584 → EReal := Spec.basis (Spec.decR (codesR L) (scalesR L))
/-- The preconditioned gradient, block by block. -/
def precond : Fin 6 → Fin 1024 → Fin 3584 → EReal :=
  Spec.prec (Spec.t3 (basisL L) (Spec.t2 (Spec.t1 (basisL L) (gA L) (eigL L)) (basisR L) (eigR L))) (basisR L)
/-- The reference direction, block by block. -/
def direction : Fin 6 → Fin 1024 → Fin 3584 → EReal := fun b i l => Spec.ada (gA L) (accA L) i (Spec.col b l)

/-- The identity matrix's entry as the reference spells it. -/
theorem eye (x y : ℕ) (hx : x < 2 ^ 32) (hy : y < 2 ^ 32) :
    (FloatOps.uitofp (F := Ideal) .f32 (IntOp.cmpi .eq (IntOp.addi (BitVec.ofNat 32 x) 0#32) (BitVec.ofNat 32 y)) : EReal)
      = if x = y then 1 else 0 := by
  have e : IntOp.cmpi .eq (IntOp.addi (BitVec.ofNat 32 x) 0#32) (BitVec.ofNat 32 y) = if x = y then 1#1 else 0#1 := by
    have h0 : IntOp.addi (BitVec.ofNat 32 x) 0#32 = BitVec.ofNat 32 x := BitVec.add_zero _
    rw [h0]
    by_cases h : x = y
    · subst h; simp [IntOp.cmpi]
    · have hn : BitVec.ofNat 32 x ≠ BitVec.ofNat 32 y := by
        intro q
        have q' := congrArg BitVec.toNat q
        rw [BitVec.toNat_ofNat, BitVec.toNat_ofNat, Nat.mod_eq_of_lt hx, Nat.mod_eq_of_lt hy] at q'
        exact h q'
      rw [if_neg h]
      simp [IntOp.cmpi, beq_eq_false_iff_ne.2 hn]
  rw [e]
  by_cases h : x = y
  · rw [if_pos h, if_pos h]
    show (((1#1 : BitVec 1).toNat : ℝ) : EReal) = 1
    norm_num
  · rw [if_neg h, if_neg h]
    show (((0#1 : BitVec 1).toNat : ℝ) : EReal) = 0
    norm_num

/-- The reference's decoded left basis. -/
theorem decodeL (b : Fin 6) (r c : Fin 1024) : res_main_v25 L (ix3 b r c) = Spec.decL (codesL L) (scalesL L) b r c := by
  pointwise [res_main_v25, res_main_v9, res_main_v2, res_main_v0]
  unfold Spec.decL Spec.nibLo Spec.nibHi
  refine congrArg₂ (· * ·) ?_ rfl
  have hc := c.isLt
  by_cases h : c.val < 512
  · rw [dif_pos h, dif_pos (show c.val / 512 < 1 by omega), Spec.sitofp_eq, Spec.lo_mask]
    simp only [Nat.mod_eq_of_lt h]
  · have e : c.val % 512 = c.val - 512 := by omega
    rw [dif_neg h, dif_neg (show ¬ c.val / 512 < 1 by omega), Spec.sitofp_eq, Spec.hi_mask]
    simp only [e]

/-- The reference's decoded right basis. -/
theorem decodeR (b : Fin 6) (r c : Fin 3584) : res_main_v72 L (ix3 b r c) = Spec.decR (codesR L) (scalesR L) b r c := by
  pointwise [res_main_v72, res_main_v56, res_main_v49, res_main_v47]
  unfold Spec.decR Spec.nibLo Spec.nibHi
  refine congrArg₂ (· * ·) ?_ rfl
  have hc := c.isLt
  by_cases h : c.val < 1792
  · rw [dif_pos h, dif_pos (show c.val / 1792 < 1 by omega), Spec.sitofp_eq, Spec.lo_mask]
    simp only [Nat.mod_eq_of_lt h]
  · have e : c.val % 1792 = c.val - 1792 := by omega
    rw [dif_neg h, dif_neg (show ¬ c.val / 1792 < 1 by omega), Spec.sitofp_eq, Spec.hi_mask]
    simp only [e]

/-- The reference's corrected left basis. -/
theorem correctL (b : Fin 6) (r c : Fin 1024) : res_main_v42 L (ix3 b r c) = basisL L b r c := by
  pointwise [res_main_v42]
  simp only [decodeL]
  unfold basisL Spec.basis Spec.corr Spec.gram
  refine congrArg₂ (· - ·) rfl (congrArg₂ (· * ·) rfl (Finset.sum_congr rfl fun x _ => congrArg₂ (· * ·) rfl (congrArg₂ (· - ·) rfl ?_)))
  exact eye x.val c.val (by omega) (by omega)

/-- The reference's corrected right basis. -/
theorem correctR (b : Fin 6) (r c : Fin 3584) : res_main_v89 L (ix3 b r c) = basisR L b r c := by
  pointwise [res_main_v89]
  simp only [decodeR]
  unfold basisR Spec.basis Spec.corr Spec.gram
  refine congrArg₂ (· - ·) rfl (congrArg₂ (· * ·) rfl (Finset.sum_congr rfl fun x _ => congrArg₂ (· * ·) rfl (congrArg₂ (· - ·) rfl ?_)))
  exact eye x.val c.val (by omega) (by omega)

/-- The reference's reference direction. -/
theorem direct (i : Fin 1024) (b : Fin 6) (c : Fin 3584) : res_main_v118 L (ix3 i b c) = direction L b i c := by
  pointwise [res_main_v118, res_main_v94]
  rfl

/-- The reference's preconditioned gradient, where the shifted eigenvalues are positive. -/
theorem precondition (hl : ∀ b j, 0 < eigL L b j + Ideal.ofBits .f32 0x38D1B717#32)
    (hr : ∀ b j, 0 < eigR L b j + Ideal.ofBits .f32 0x38D1B717#32) (i : Fin 1024) (b : Fin 6) (c : Fin 3584) :
    res_main_v112 L (ix3 i b c) = precond L b i c := by
  pointwise [res_main_v112, res_main_v94]
  simp only [correctL, correctR, Spec.pow_quarter _ (hl _ _), Spec.pow_quarter _ (hr _ _)]
  unfold precond Spec.prec Spec.t3 Spec.t2 Spec.t1 Spec.damp
  show @Eq EReal _ _
  refine Finset.sum_congr rfl fun e _ => (mul_comm (_ : EReal) _).trans (congrArg₂ (· * ·) (Finset.sum_congr rfl fun j _ => ?_) rfl)
  refine (mul_comm (_ : EReal) _).trans (congrArg₂ (· * ·) rfl (congrArg₂ (· * ·) (Finset.sum_congr rfl fun x _ => ?_) rfl))
  refine (mul_comm (_ : EReal) _).trans (congrArg₂ (· * ·) (congrArg₂ (· * ·) (Finset.sum_congr rfl fun y _ => mul_comm (_ : EReal) _) rfl) rfl)

/-- The square root of a host sum of squares over a block is the norm the kernel's lanes give. -/
theorem sumsq (X : FVec Ideal S1024x6x3584 .f32) (Y : Fin 6 → Fin 1024 → Fin 3584 → EReal)
    (h : ∀ i b c, X (ix3 i b c) = Y b i c) (b : Fin 6) :
    Ideal.sqrt (Ideal.hostReduceAdd reducesTo_S1024x6x3584_S6_d0_2 (mulf X X) 0 (ix1 b)) = Spec.norm (Spec.lanes Y) b := by
  rw [Spec.norm_lanes, Spec.hostReduce_outer_inner, zero_add]
  refine congrArg Ideal.sqrt (Finset.sum_congr rfl fun i _ => Finset.sum_congr rfl fun c _ => ?_)
  exact congrArg₂ (· * ·) (h i b c) (h i b c)

/-- The reference's update. -/
def update : FVec Ideal S1024x21504 .f32 :=
  shapeCast S1024x21504 (mulf (res_main_v112 L) (broadcastInDim S1024x6x3584 ![0, 1, 2] bcast_S1x6x1_S1024x6x3584_0_1_2 (broadcastInDim S1x6x1 ![1] bcast_S6_S1x6x1_1 (Host.divf (Host.sqrt (Host.reduceAdd (mulf (res_main_v118 L) (res_main_v118 L)) (constant S_ .f32 0x00000000#32) reducesTo_S1024x6x3584_S6_d0_2 h_S_)) (select (cmpf .oeq (res_main_v124 L) (broadcastInDim S6 ![] bcast_S_S6 (constant S_ .f32 0x00000000#32))) (broadcastInDim S6 ![] bcast_S_S6 (id (constant S_ .f32 0x3F800000#32))) (res_main_v124 L)))))) shapeCasts_S1024x6x3584_S1024x21504

/-- The reference's second result, its reference direction laid flat. -/
def second : FVec Ideal S1024x21504 .f32 := shapeCast S1024x21504 (res_main_v118 L) shapeCasts_S1024x6x3584_S1024x21504

/-- The reference's update, entry by entry. -/
theorem update_eq (hl : ∀ b j, 0 < eigL L b j + Ideal.ofBits .f32 0x38D1B717#32)
    (hr : ∀ b j, 0 < eigR L b j + Ideal.ofBits .f32 0x38D1B717#32) (i : Fin 1024) (l : Fin 21504) :
    update L (ix2 i l)
    = Spec.graft (precond L ⟨l.val / 3584, by omega⟩ i ⟨l.val % 3584, by omega⟩) (Spec.norm (Spec.lanes (precond L)) ⟨l.val / 3584, by omega⟩)
        (Spec.norm (Spec.lanes (direction L)) ⟨l.val / 3584, by omega⟩) := by
  pointwise [update, res_main_v124]
  rw [sumsq (res_main_v118 L) (direction L) (direct L), sumsq (res_main_v112 L) (precond L) (precondition L hl hr),
    precondition L hl hr, show id (constant (F := Ideal) S_ .f32 0x3F800000#32) ix0 = (1 : EReal) from Ideal.ofBits_one_f32]
  rfl

/-- The reference's second result, entry by entry. -/
theorem second_eq (i : Fin 1024) (l : Fin 21504) : second L (ix2 i l) = Spec.ada (gA L) (accA L) i l := by
  pointwise [second]
  rw [direct]
  refine congrArg (Spec.ada (gA L) (accA L) i) (Fin.ext ?_)
  show l.val / 3584 * 3584 + l.val % 3584 = l.val
  omega

end Cert.ReferenceIdeal.Values
end
-- ==== Proof.Precondition.lean ====
/- The precondition's facts and what it says of the eigenvalues. -/
module

public import proofs.«01_k».proof.Defs
public import proofs.«01_k».proof.Proof.Spec
public import Idealize.ShloMosaic.Lib.Decide
public import Idealize.ShloMosaic.Lib.Pointwise

@[expose] public section

set_option maxRecDepth 16384

noncomputable section

namespace Cert.Pre_eigenvalues_above

open Idealize.ShloMosaic

/-- The two eigenvalue arrays join along their columns. -/
theorem joins : Shape.Concatenates [S6x1024, S6x3584] S6x4608 1 := by decide
/-- A scalar spreads over the joined array. -/
theorem spreads : S_.BroadcastsInDim S6x4608 (![] : Fin 0 → Fin S6x4608.rank) := by decide

/-- The shape facts the precondition takes. -/
instance facts : Facts where
  concatenates_S6x1024_S6x3584_S6x4608_d1 := joins
  bcast_S_S6x4608 := spreads

variable (a0 : FVec Ideal S1024x21504 .bf16) (a1 : FVec Ideal S1024x21504 .f32) (a2 : IVec S6x1024x512 8)
  (a3 : FVec Ideal S6x1024x16 .f32) (a4 : FVec Ideal S6x1024 .f32) (a5 : IVec S6x3584x1792 8)
  (a6 : FVec Ideal S6x3584x56 .f32) (a7 : FVec Ideal S6x3584 .f32)

/-- A bit that is one states its condition. -/
theorem of_bit (P : Prop) [Decidable P] (h : BitVec.ofBool (decide P) = 1#1) : P := by
  by_contra hn
  rw [decide_eq_false hn] at h
  exact absurd h (by decide)

/-- Under the precondition every shifted left eigenvalue is positive. -/
theorem left_pos (h : fn (F := Ideal) a0 a1 a2 a3 a4 a5 a6 a7 = fun _ => 1#1) (b : Fin 6) (j : Fin 1024) :
    0 < a4 (ix2 b j) + Ideal.ofBits .f32 0x38D1B717#32 := by
  have h1 := congrFun h (ix2 b ⟨j.val, by omega⟩)
  pointwise [fn] at h1
  exact of_bit _ h1

/-- Under the precondition every shifted right eigenvalue is positive. -/
theorem right_pos (h : fn (F := Ideal) a0 a1 a2 a3 a4 a5 a6 a7 = fun _ => 1#1) (b : Fin 6) (j : Fin 3584) :
    0 < a7 (ix2 b j) + Ideal.ofBits .f32 0x38D1B717#32 := by
  have h1 := congrFun h (ix2 b ⟨1024 + j.val, by omega⟩)
  pointwise [fn] at h1
  exact of_bit _ h1

end Cert.Pre_eigenvalues_above
end
-- ==== Proof.Agree.lean ====
/- The two programs' results at memories that agree on the arguments. -/
module

public import proofs.«01_k».proof.Proof.Chain
public import proofs.«01_k».proof.Proof.RefValue
public import proofs.«01_k».proof.Proof.Precondition

@[expose] public section

set_option maxRecDepth 16384

noncomputable section

namespace Cert.Agree

open Idealize.ShloMosaic Idealize.ShloMosaic.TcCoe Idealize.SL.Sem

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- The two launch memories hold the same arguments on a device. -/
def Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

/-- The reference's contents at launch. -/
abbrev atLaunch (c : Dev Cert.ReferenceIdeal.nD) : Valuation Cert.ReferenceIdeal.τ Cert.ReferenceIdeal.sig (Elt Ideal) := Idealize.ShloMosaic.StableHlo.launchContents m' c

variable {m m'} {c : Dev Cert.KernelIdeal.nD} (h : Same m m' c)
include h

/-- The same gradient. -/
theorem gradient : Cert.ReferenceIdeal.Values.gA (atLaunch m' c) = Cert.KernelIdeal.Values.gA (Cert.KernelIdeal.Gen.V0 m ρ) c :=
  congrArg (Spec.mat (φ := .bf16) (a := 1024) (b := 21504)) h.1
/-- The same accumulator. -/
theorem accumulator : Cert.ReferenceIdeal.Values.accA (atLaunch m' c) = Cert.KernelIdeal.Values.accA (Cert.KernelIdeal.Gen.V0 m ρ) c :=
  congrArg (Spec.mat (φ := .f32) (a := 1024) (b := 21504)) h.2.1
/-- The same left eigenvalues. -/
theorem left : Cert.ReferenceIdeal.Values.eigL (atLaunch m' c) = Cert.KernelIdeal.Values.eigL m ρ c :=
  congrArg (Spec.mat (φ := .f32) (a := 6) (b := 1024)) h.2.2.2.2.1
/-- The same right eigenvalues. -/
theorem right : Cert.ReferenceIdeal.Values.eigR (atLaunch m' c) = Cert.KernelIdeal.Values.eigR m ρ c :=
  congrArg (Spec.mat (φ := .f32) (a := 6) (b := 3584)) h.2.2.2.2.2.2.2
/-- The same left basis. -/
theorem basisL : Cert.ReferenceIdeal.Values.basisL (atLaunch m' c) = Cert.KernelIdeal.Values.basisL m ρ c :=
  congrArg Spec.basis (congrArg₂ Spec.decL h.2.2.1 h.2.2.2.1)
/-- The same right basis. -/
theorem basisR : Cert.ReferenceIdeal.Values.basisR (atLaunch m' c) = Cert.KernelIdeal.Values.basisR m ρ c :=
  congrArg Spec.basis (congrArg₂ Spec.decR h.2.2.2.2.2.1 h.2.2.2.2.2.2.1)
/-- The same preconditioned gradient. -/
theorem precond : Cert.ReferenceIdeal.Values.precond (atLaunch m' c) = Cert.KernelIdeal.Values.precond m ρ c := by
  unfold Cert.ReferenceIdeal.Values.precond Cert.KernelIdeal.Values.precond
  rw [basisL ρ h, basisR ρ h, gradient ρ h, left ρ h, right ρ h]
/-- The same reference direction. -/
theorem direction : Cert.ReferenceIdeal.Values.direction (atLaunch m' c) = Cert.KernelIdeal.Values.direction m ρ c := by
  unfold Cert.ReferenceIdeal.Values.direction Cert.KernelIdeal.Values.direction
  rw [gradient ρ h, accumulator ρ h]

/-- The second results agree. -/
theorem second : Cert.ReferenceIdeal.Values.second (atLaunch m' c)
    = Cert.KernelIdeal.Gen.V13 m ρ c Cert.KernelIdeal.main_v7_1 := by
  refine funext fun j => ?_
  obtain ⟨i, l, rfl⟩ : ∃ i l, j = ix2 i l := ⟨j 0, j 1, by funext x; match x with | ⟨0, _⟩ => rfl | ⟨1, _⟩ => rfl⟩
  refine (Cert.ReferenceIdeal.Values.second_eq _ i l).trans ?_
  rw [gradient ρ h, accumulator ρ h]
  exact (Cert.KernelIdeal.Values.direction_eq m ρ c i l).symm

/-- The updates agree, where the shifted eigenvalues are positive. -/
theorem update (hp : Pre_KernelIdeal_eigenvalues_above m) : Cert.ReferenceIdeal.Values.update (atLaunch m' c)
    = Cert.KernelIdeal.Gen.V13 m ρ c Cert.KernelIdeal.main_v12 := by
  refine funext fun j => ?_
  obtain ⟨i, l, rfl⟩ : ∃ i l, j = ix2 i l := ⟨j 0, j 1, by funext x; match x with | ⟨0, _⟩ => rfl | ⟨1, _⟩ => rfl⟩
  refine (Cert.ReferenceIdeal.Values.update_eq _ ?_ ?_ i l).trans ?_
  · intro b j
    rw [left ρ h]
    exact Cert.Pre_eigenvalues_above.left_pos _ _ _ _ _ _ _ _ (hp c) b j
  · intro b j
    rw [right ρ h]
    exact Cert.Pre_eigenvalues_above.right_pos _ _ _ _ _ _ _ _ (hp c) b j
  · rw [precond ρ h, direction ρ h]
    exact (Cert.KernelIdeal.Values.update_eq m ρ c i l).symm

end Cert.Agree
end
-- ==== Proof.lean ====
/- The proof of the certificate's claim: the frames of both kernels and of the reference, the trivial preservation, and
   the kernel's two results equal to the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Lib.Claim
public import Idealize.ShloMosaic.Adequacy
public import Idealize.ShloMosaic.Init

@[expose] public section

noncomputable section

namespace Cert.Proof

open Idealize.ShloMosaic Idealize.SL.Sem

/-- The kernel and the reference leave the same two results. -/
theorem algebraic : algebraic_KernelIdeal_ReferenceIdeal_pre_eigenvalues_above := by
  intro m g m' g' hpre hagree
  refine ⟨fun c => Cert.KernelIdeal.Gen.V13 m g c Cert.KernelIdeal.main_v12,
    fun c => Cert.KernelIdeal.Gen.V13 m g c Cert.KernelIdeal.main_v7_1, Cert.KernelIdeal.Values.run m g, ?_⟩
  refine (θ_run _ _ _).mono (fun r hr c => ?_) (Cert.ReferenceIdeal.Value.run m' g')
  exact ⟨(hr c).1.trans (Cert.Agree.update g (hagree c) hpre), (hr c).2.1.trans (Cert.Agree.second g (hagree c)), (hr c).2.2⟩

/-- The reference runs, keeps its arguments and ends with every counter at zero. -/
theorem reference_quiescent : quiescent_ReferenceIdeal := by
  intro m g _
  exact (θ_run Cert.ReferenceIdeal.defs _ _).mono
    (fun r h => ⟨fun c => (h c).2.2, Idealize.ShloMosaic.sem_eq_zero_of_no_sems (by decide) r.2⟩)
    (Cert.ReferenceIdeal.Value.run m g)

/-- Every claim of the certificate. -/
theorem claim : Cert.Claim :=
  ⟨Cert.Kernel.Gen.facts, Cert.KernelIdeal.Gen.facts, Cert.ReferenceIdeal.Gen.facts, Cert.Pre_eigenvalues_above.facts,
    fun m g _ => Cert.Kernel.Gen.frame m g, fun m g _ => Cert.KernelIdeal.Gen.frame m g, fun m g _ => Cert.KernelIdeal.Gen.frame m g,
    reference_quiescent, fun m g _ => reference_quiescent m g trivial, trivial, algebraic⟩

end Cert.Proof

end
